-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v130)) (v1 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_v131) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v321) = v0 c
          ∧ r.2.mem ((c.tc : Thread Cert.ReferenceIdeal.nD Cert.ReferenceIdeal.τ).loc Cert.ReferenceIdeal.main_v322) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x96x128x128 : Shape := ⟨4, ![4, 96, 128, 128]⟩
abbrev S96x96x3x3 : Shape := ⟨4, ![96, 96, 3, 3]⟩
abbrev S96x96 : Shape := ⟨2, ![96, 96]⟩
abbrev S1 : Shape := ⟨1, ![1]⟩
abbrev S96 : Shape := ⟨1, ![96]⟩
abbrev S288x96 : Shape := ⟨2, ![288, 96]⟩
abbrev S288 : Shape := ⟨1, ![288]⟩
abbrev S384x96 : Shape := ⟨2, ![384, 96]⟩
abbrev S384 : Shape := ⟨1, ![384]⟩
abbrev S96x384 : Shape := ⟨2, ![96, 384]⟩
abbrev S24x96 : Shape := ⟨2, ![24, 96]⟩
abbrev S24 : Shape := ⟨1, ![24]⟩
abbrev S1x24 : Shape := ⟨2, ![1, 24]⟩
abbrev S128x128 : Shape := ⟨2, ![128, 128]⟩
abbrev S_ : Shape := ⟨0, ![]⟩

class Facts : Prop where
  bcast_S_S4x96x128x128 : S_.BroadcastsInDim S4x96x128x128 (![] : Fin 0 → Fin S4x96x128x128.rank)
  bcast_S_S96x96x3x3 : S_.BroadcastsInDim S96x96x3x3 (![] : Fin 0 → Fin S96x96x3x3.rank)
  bcast_S_S96x96 : S_.BroadcastsInDim S96x96 (![] : Fin 0 → Fin S96x96.rank)
  bcast_S_S1 : S_.BroadcastsInDim S1 (![] : Fin 0 → Fin S1.rank)
  bcast_S_S96 : S_.BroadcastsInDim S96 (![] : Fin 0 → Fin S96.rank)
  bcast_S_S288x96 : S_.BroadcastsInDim S288x96 (![] : Fin 0 → Fin S288x96.rank)
  bcast_S_S288 : S_.BroadcastsInDim S288 (![] : Fin 0 → Fin S288.rank)
  bcast_S_S384x96 : S_.BroadcastsInDim S384x96 (![] : Fin 0 → Fin S384x96.rank)
  bcast_S_S384 : S_.BroadcastsInDim S384 (![] : Fin 0 → Fin S384.rank)
  bcast_S_S96x384 : S_.BroadcastsInDim S96x384 (![] : Fin 0 → Fin S96x384.rank)
  bcast_S_S24x96 : S_.BroadcastsInDim S24x96 (![] : Fin 0 → Fin S24x96.rank)
  bcast_S_S24 : S_.BroadcastsInDim S24 (![] : Fin 0 → Fin S24.rank)
  bcast_S_S1x24 : S_.BroadcastsInDim S1x24 (![] : Fin 0 → Fin S1x24.rank)
  bcast_S_S128x128 : S_.BroadcastsInDim S128x128 (![] : Fin 0 → Fin S128x128.rank)

variable [Facts]

def fn_part4 {F : FTy → Type} [FloatOps F] (main_arg24 : FVec F S128x128 .f32) (main_arg25 : FVec F S128x128 .f32) (main_v2 : IVec S4x96x128x128 1) (main_v5 : IVec S4x96x128x128 1) (main_v8 : IVec S96x96x3x3 1) (main_v11 : IVec S96x96 1) (main_v14 : IVec S1 1) (main_v17 : IVec S96x96x3x3 1) (main_v20 : IVec S96x96 1) (main_v23 : IVec S1 1) (main_v26 : IVec S96 1) (main_v29 : IVec S96 1) (main_v32 : IVec S288x96 1) (main_v35 : IVec S288 1) (main_v38 : IVec S96x96 1) (main_v41 : IVec S96 1) (main_v44 : IVec S96 1) (main_v47 : IVec S96 1) (main_v50 : IVec S384x96 1) (main_v53 : IVec S384 1) (main_v56 : IVec S96x384 1) (main_v59 : IVec S96 1) (main_v62 : IVec S24x96 1) (main_v65 : IVec S24 1) (main_v68 : IVec S1x24 1) (main_v71 : IVec S1 1) : IVec S4x96x128x128 1 × IVec S4x96x128x128 1 × IVec S96x96x3x3 1 × IVec S96x96 1 × IVec S1 1 × IVec S96x96x3x3 1 × IVec S96x96 1 × IVec S1 1 × IVec S96 1 × IVec S96 1 × IVec S288x96 1 × IVec S288 1 × IVec S96x96 1 × IVec S96 1 × IVec S96 1 × IVec S96 1 × IVec S384x96 1 × IVec S384 1 × IVec S96x384 1 × IVec S96 1 × IVec S24x96 1 × IVec S24 1 × IVec S1x24 1 × IVec S1 1 × IVec S128x128 1 × IVec S128x128 1 :=
  let main_v72 : FVec F S128x128 .f32 := Host.absf main_arg24
  let main_cst_23 : FVec F S_ .f32 := constant S_ .f32 0x7F800000#32
  let main_v73 : FVec F S128x128 .f32 := broadcastInDim S128x128 ![] bcast_S_S128x128 main_cst_23
  let main_v74 : IVec S128x128 1 := cmpf .olt main_v72 main_v73
  let main_v75 : FVec F S128x128 .f32 := Host.absf main_arg25
  let main_cst_24 : FVec F S_ .f32 := constant S_ .f32 0x7F800000#32
  let main_v76 : FVec F S128x128 .f32 := broadcastInDim S128x128 ![] bcast_S_S128x128 main_cst_24
  let main_v77 : IVec S128x128 1 := cmpf .olt main_v75 main_v76
  (main_v2, main_v5, main_v8, main_v11, main_v14, main_v17, main_v20, main_v23, main_v26, main_v29, main_v32, main_v35, main_v38, main_v41, main_v44, main_v47, main_v50, main_v53, main_v56, main_v59, main_v62, main_v65, main_v68, main_v71, main_v74, main_v77)

def fn_part3 {F : FTy → Type} [FloatOps F] (main_arg18 : FVec F S96x384 .f32) (main_arg19 : FVec F S96 .f32) (main_arg20 : FVec F S24x96 .f32) (main_arg21 : FVec F S24 .f32) (main_arg22 : FVec F S1x24 .f32) (main_arg23 : FVec F S1 .f32) (main_arg24 : FVec F S128x128 .f32) (main_arg25 : FVec F S128x128 .f32) (main_v2 : IVec S4x96x128x128 1) (main_v5 : IVec S4x96x128x128 1) (main_v8 : IVec S96x96x3x3 1) (main_v11 : IVec S96x96 1) (main_v14 : IVec S1 1) (main_v17 : IVec S96x96x3x3 1) (main_v20 : IVec S96x96 1) (main_v23 : IVec S1 1) (main_v26 : IVec S96 1) (main_v29 : IVec S96 1) (main_v32 : IVec S288x96 1) (main_v35 : IVec S288 1) (main_v38 : IVec S96x96 1) (main_v41 : IVec S96 1) (main_v44 : IVec S96 1) (main_v47 : IVec S96 1) (main_v50 : IVec S384x96 1) (main_v53 : IVec S384 1) : IVec S4x96x128x128 1 × IVec S4x96x128x128 1 × IVec S96x96x3x3 1 × IVec S96x96 1 × IVec S1 1 × IVec S96x96x3x3 1 × IVec S96x96 1 × IVec S1 1 × IVec S96 1 × IVec S96 1 × IVec S288x96 1 × IVec S288 1 × IVec S96x96 1 × IVec S96 1 × IVec S96 1 × IVec S96 1 × IVec S384x96 1 × IVec S384 1 × IVec S96x384 1 × IVec S96 1 × IVec S24x96 1 × IVec S24 1 × IVec S1x24 1 × IVec S1 1 × IVec S128x128 1 × IVec S128x128 1 :=
  let main_v54 : FVec F S96x384 .f32 := Host.absf main_arg18
  let main_cst_17 : FVec F S_ .f32 := constant S_ .f32 0x7F800000#32
  let main_v55 : FVec F S96x384 .f32 := broadcastInDim S96x384 ![] bcast_S_S96x384 main_cst_17
  let main_v56 : IVec S96x384 1 := cmpf .olt main_v54 main_v55
  let main_v57 : FVec F S96 .f32 := Host.absf main_arg19
  let main_cst_18 : FVec F S_ .f32 := constant S_ .f32 0x7F800000#32
  let main_v58 : FVec F S96 .f32 := broadcastInDim S96 ![] bcast_S_S96 main_cst_18
  let main_v59 : IVec S96 1 := cmpf .olt main_v57 main_v58
  let main_v60 : FVec F S24x96 .f32 := Host.absf main_arg20
  let main_cst_19 : FVec F S_ .f32 := constant S_ .f32 0x7F800000#32
  let main_v61 : FVec F S24x96 .f32 := broadcastInDim S24x96 ![] bcast_S_S24x96 main_cst_19
  let main_v62 : IVec S24x96 1 := cmpf .olt main_v60 main_v61
  let main_v63 : FVec F S24 .f32 := Host.absf main_arg21
  let main_cst_20 : FVec F S_ .f32 := constant S_ .f32 0x7F800000#32
  let main_v64 : FVec F S24 .f32 := broadcastInDim S24 ![] bcast_S_S24 main_cst_20
  let main_v65 : IVec S24 1 := cmpf .olt main_v63 main_v64
  let main_v66 : FVec F S1x24 .f32 := Host.absf main_arg22
  let main_cst_21 : FVec F S_ .f32 := constant S_ .f32 0x7F800000#32
  let main_v67 : FVec F S1x24 .f32 := broadcastInDim S1x24 ![] bcast_S_S1x24 main_cst_21
  let main_v68 : IVec S1x24 1 := cmpf .olt main_v66 main_v67
  let main_v69 : FVec F S1 .f32 := Host.absf main_arg23
  let main_cst_22 : FVec F S_ .f32 := constant S_ .f32 0x7F800000#32
  let main_v70 : FVec F S1 .f32 := broadcastInDim S1 ![] bcast_S_S1 main_cst_22
  let main_v71 : IVec S1 1 := cmpf .olt main_v69 main_v70
  fn_part4 (F := F) main_arg24 main_arg25 main_v2 main_v5 main_v8 main_v11 main_v14 main_v17 main_v20 main_v23 main_v26 main_v29 main_v32 main_v35 main_v38 main_v41 main_v44 main_v47 main_v50 main_v53 main_v56 main_v59 main_v62 main_v65 main_v68 main_v71

def fn_part2 {F : FTy → Type} [FloatOps F] (main_arg12 : FVec F S96x96 .f32) (main_arg13 : FVec F S96 .f32) (main_arg14 : FVec F S96 .f32) (main_arg15 : FVec F S96 .f32) (main_arg16 : FVec F S384x96 .f32) (main_arg17 : FVec F S384 .f32) (main_arg18 : FVec F S96x384 .f32) (main_arg19 : FVec F S96 .f32) (main_arg20 : FVec F S24x96 .f32) (main_arg21 : FVec F S24 .f32) (main_arg22 : FVec F S1x24 .f32) (main_arg23 : FVec F S1 .f32) (main_arg24 : FVec F S128x128 .f32) (main_arg25 : FVec F S128x128 .f32) (main_v2 : IVec S4x96x128x128 1) (main_v5 : IVec S4x96x128x128 1) (main_v8 : IVec S96x96x3x3 1) (main_v11 : IVec S96x96 1) (main_v14 : IVec S1 1) (main_v17 : IVec S96x96x3x3 1) (main_v20 : IVec S96x96 1) (main_v23 : IVec S1 1) (main_v26 : IVec S96 1) (main_v29 : IVec S96 1) (main_v32 : IVec S288x96 1) (main_v35 : IVec S288 1) : IVec S4x96x128x128 1 × IVec S4x96x128x128 1 × IVec S96x96x3x3 1 × IVec S96x96 1 × IVec S1 1 × IVec S96x96x3x3 1 × IVec S96x96 1 × IVec S1 1 × IVec S96 1 × IVec S96 1 × IVec S288x96 1 × IVec S288 1 × IVec S96x96 1 × IVec S96 1 × IVec S96 1 × IVec S96 1 × IVec S384x96 1 × IVec S384 1 × IVec S96x384 1 × IVec S96 1 × IVec S24x96 1 × IVec S24 1 × IVec S1x24 1 × IVec S1 1 × IVec S128x128 1 × IVec S128x128 1 :=
  let main_v36 : FVec F S96x96 .f32 := Host.absf main_arg12
  let main_cst_11 : FVec F S_ .f32 := constant S_ .f32 0x7F800000#32
  let main_v37 : FVec F S96x96 .f32 := broadcastInDim S96x96 ![] bcast_S_S96x96 main_cst_11
  let main_v38 : IVec S96x96 1 := cmpf .olt main_v36 main_v37
  let main_v39 : FVec F S96 .f32 := Host.absf main_arg13
  let main_cst_12 : FVec F S_ .f32 := constant S_ .f32 0x7F800000#32
  let main_v40 : FVec F S96 .f32 := broadcastInDim S96 ![] bcast_S_S96 main_cst_12
  let main_v41 : IVec S96 1 := cmpf .olt main_v39 main_v40
  let main_v42 : FVec F S96 .f32 := Host.absf main_arg14
  let main_cst_13 : FVec F S_ .f32 := constant S_ .f32 0x7F800000#32
  let main_v43 : FVec F S96 .f32 := broadcastInDim S96 ![] bcast_S_S96 main_cst_13
  let main_v44 : IVec S96 1 := cmpf .olt main_v42 main_v43
  let main_v45 : FVec F S96 .f32 := Host.absf main_arg15
  let main_cst_14 : FVec F S_ .f32 := constant S_ .f32 0x7F800000#32
  let main_v46 : FVec F S96 .f32 := broadcastInDim S96 ![] bcast_S_S96 main_cst_14
  let main_v47 : IVec S96 1 := cmpf .olt main_v45 main_v46
  let main_v48 : FVec F S384x96 .f32 := Host.absf main_arg16
  let main_cst_15 : FVec F S_ .f32 := constant S_ .f32 0x7F800000#32
  let main_v49 : FVec F S384x96 .f32 := broadcastInDim S384x96 ![] bcast_S_S384x96 main_cst_15
  let main_v50 : IVec S384x96 1 := cmpf .olt main_v48 main_v49
  let main_v51 : FVec F S384 .f32 := Host.absf main_arg17
  let main_cst_16 : FVec F S_ .f32 := constant S_ .f32 0x7F800000#32
  let main_v52 : FVec F S384 .f32 := broadcastInDim S384 ![] bcast_S_S384 main_cst_16
  let main_v53 : IVec S384 1 := cmpf .olt main_v51 main_v52
  fn_part3 (F := F) main_arg18 main_arg19 main_arg20 main_arg21 main_arg22 main_arg23 main_arg24 main_arg25 main_v2 main_v5 main_v8 main_v11 main_v14 main_v17 main_v20 main_v23 main_v26 main_v29 main_v32 main_v35 main_v38 main_v41 main_v44 main_v47 main_v50 main_v53

def fn_part1 {F : FTy → Type} [FloatOps F] (main_arg6 : FVec F S96x96 .f32) (main_arg7 : FVec F S1 .f32) (main_arg8 : FVec F S96 .f32) (main_arg9 : FVec F S96 .f32) (main_arg10 : FVec F S288x96 .f32) (main_arg11 : FVec F S288 .f32) (main_arg12 : FVec F S96x96 .f32) (main_arg13 : FVec F S96 .f32) (main_arg14 : FVec F S96 .f32) (main_arg15 : FVec F S96 .f32) (main_arg16 : FVec F S384x96 .f32) (main_arg17 : FVec F S384 .f32) (main_arg18 : FVec F S96x384 .f32) (main_arg19 : FVec F S96 .f32) (main_arg20 : FVec F S24x96 .f32) (main_arg21 : FVec F S24 .f32) (main_arg22 : FVec F S1x24 .f32) (main_arg23 : FVec F S1 .f32) (main_arg24 : FVec F S128x128 .f32) (main_arg25 : FVec F S128x128 .f32) (main_v2 : IVec S4x96x128x128 1) (main_v5 : IVec S4x96x128x128 1) (main_v8 : IVec S96x96x3x3 1) (main_v11 : IVec S96x96 1) (main_v14 : IVec S1 1) (main_v17 : IVec S96x96x3x3 1) : IVec S4x96x128x128 1 × IVec S4x96x128x128 1 × IVec S96x96x3x3 1 × IVec S96x96 1 × IVec S1 1 × IVec S96x96x3x3 1 × IVec S96x96 1 × IVec S1 1 × IVec S96 1 × IVec S96 1 × IVec S288x96 1 × IVec S288 1 × IVec S96x96 1 × IVec S96 1 × IVec S96 1 × IVec S96 1 × IVec S384x96 1 × IVec S384 1 × IVec S96x384 1 × IVec S96 1 × IVec S24x96 1 × IVec S24 1 × IVec S1x24 1 × IVec S1 1 × IVec S128x128 1 × IVec S128x128 1 :=
  let main_v18 : FVec F S96x96 .f32 := Host.absf main_arg6
  let main_cst_5 : FVec F S_ .f32 := constant S_ .f32 0x7F800000#32
  let main_v19 : FVec F S96x96 .f32 := broadcastInDim S96x96 ![] bcast_S_S96x96 main_cst_5
  let main_v20 : IVec S96x96 1 := cmpf .olt main_v18 main_v19
  let main_v21 : FVec F S1 .f32 := Host.absf main_arg7
  let main_cst_6 : FVec F S_ .f32 := constant S_ .f32 0x7F800000#32
  let main_v22 : FVec F S1 .f32 := broadcastInDim S1 ![] bcast_S_S1 main_cst_6
  let main_v23 : IVec S1 1 := cmpf .olt main_v21 main_v22
  let main_v24 : FVec F S96 .f32 := Host.absf main_arg8
  let main_cst_7 : FVec F S_ .f32 := constant S_ .f32 0x7F800000#32
  let main_v25 : FVec F S96 .f32 := broadcastInDim S96 ![] bcast_S_S96 main_cst_7
  let main_v26 : IVec S96 1 := cmpf .olt main_v24 main_v25
  let main_v27 : FVec F S96 .f32 := Host.absf main_arg9
  let main_cst_8 : FVec F S_ .f32 := constant S_ .f32 0x7F800000#32
  let main_v28 : FVec F S96 .f32 := broadcastInDim S96 ![] bcast_S_S96 main_cst_8
  let main_v29 : IVec S96 1 := cmpf .olt main_v27 main_v28
  let main_v30 : FVec F S288x96 .f32 := Host.absf main_arg10
  let main_cst_9 : FVec F S_ .f32 := constant S_ .f32 0x7F800000#32
  let main_v31 : FVec F S288x96 .f32 := broadcastInDim S288x96 ![] bcast_S_S288x96 main_cst_9
  let main_v32 : IVec S288x96 1 := cmpf .olt main_v30 main_v31
  let main_v33 : FVec F S288 .f32 := Host.absf main_arg11
  let main_cst_10 : FVec F S_ .f32 := constant S_ .f32 0x7F800000#32
  let main_v34 : FVec F S288 .f32 := broadcastInDim S288 ![] bcast_S_S288 main_cst_10
  let main_v35 : IVec S288 1 := cmpf .olt main_v33 main_v34
  fn_part2 (F := F) main_arg12 main_arg13 main_arg14 main_arg15 main_arg16 main_arg17 main_arg18 main_arg19 main_arg20 main_arg21 main_arg22 main_arg23 main_arg24 main_arg25 main_v2 main_v5 main_v8 main_v11 main_v14 main_v17 main_v20 main_v23 main_v26 main_v29 main_v32 main_v35

def fn {F : FTy → Type} [FloatOps F] (main_arg0 : FVec F S4x96x128x128 .f32) (main_arg1 : FVec F S4x96x128x128 .f32) (main_arg2 : FVec F S96x96x3x3 .f32) (main_arg3 : FVec F S96x96 .f32) (main_arg4 : FVec F S1 .f32) (main_arg5 : FVec F S96x96x3x3 .f32) (main_arg6 : FVec F S96x96 .f32) (main_arg7 : FVec F S1 .f32) (main_arg8 : FVec F S96 .f32) (main_arg9 : FVec F S96 .f32) (main_arg10 : FVec F S288x96 .f32) (main_arg11 : FVec F S288 .f32) (main_arg12 : FVec F S96x96 .f32) (main_arg13 : FVec F S96 .f32) (main_arg14 : FVec F S96 .f32) (main_arg15 : FVec F S96 .f32) (main_arg16 : FVec F S384x96 .f32) (main_arg17 : FVec F S384 .f32) (main_arg18 : FVec F S96x384 .f32) (main_arg19 : FVec F S96 .f32) (main_arg20 : FVec F S24x96 .f32) (main_arg21 : FVec F S24 .f32) (main_arg22 : FVec F S1x24 .f32) (main_arg23 : FVec F S1 .f32) (main_arg24 : FVec F S128x128 .f32) (main_arg25 : FVec F S128x128 .f32) : IVec S4x96x128x128 1 × IVec S4x96x128x128 1 × IVec S96x96x3x3 1 × IVec S96x96 1 × IVec S1 1 × IVec S96x96x3x3 1 × IVec S96x96 1 × IVec S1 1 × IVec S96 1 × IVec S96 1 × IVec S288x96 1 × IVec S288 1 × IVec S96x96 1 × IVec S96 1 × IVec S96 1 × IVec S96 1 × IVec S384x96 1 × IVec S384 1 × IVec S96x384 1 × IVec S96 1 × IVec S24x96 1 × IVec S24 1 × IVec S1x24 1 × IVec S1 1 × IVec S128x128 1 × IVec S128x128 1 :=
  let main_v0 : FVec F S4x96x128x128 .f32 := Host.absf main_arg0
  let main_cst : FVec F S_ .f32 := constant S_ .f32 0x7F800000#32
  let main_v1 : FVec F S4x96x128x128 .f32 := broadcastInDim S4x96x128x128 ![] bcast_S_S4x96x128x128 main_cst
  let main_v2 : IVec S4x96x128x128 1 := cmpf .olt main_v0 main_v1
  let main_v3 : FVec F S4x96x128x128 .f32 := Host.absf main_arg1
  let main_cst_0 : FVec F S_ .f32 := constant S_ .f32 0x7F800000#32
  let main_v4 : FVec F S4x96x128x128 .f32 := broadcastInDim S4x96x128x128 ![] bcast_S_S4x96x128x128 main_cst_0
  let main_v5 : IVec S4x96x128x128 1 := cmpf .olt main_v3 main_v4
  let main_v6 : FVec F S96x96x3x3 .f32 := Host.absf main_arg2
  let main_cst_1 : FVec F S_ .f32 := constant S_ .f32 0x7F800000#32
  let main_v7 : FVec F S96x96x3x3 .f32 := broadcastInDim S96x96x3x3 ![] bcast_S_S96x96x3x3 main_cst_1
  let main_v8 : IVec S96x96x3x3 1 := cmpf .olt main_v6 main_v7
  let main_v9 : FVec F S96x96 .f32 := Host.absf main_arg3
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_v12 : FVec F S1 .f32 := Host.absf main_arg4
  let main_cst_3 : FVec F S_ .f32 := constant S_ .f32 0x7F800000#32
  let main_v13 : FVec F S1 .f32 := broadcastInDim S1 ![] bcast_S_S1 main_cst_3
  let main_v14 : IVec S1 1 := cmpf .olt main_v12 main_v13
  let main_v15 : FVec F S96x96x3x3 .f32 := Host.absf main_arg5
  let main_cst_4 : FVec F S_ .f32 := constant S_ .f32 0x7F800000#32
  let main_v16 : FVec F S96x96x3x3 .f32 := broadcastInDim S96x96x3x3 ![] bcast_S_S96x96x3x3 main_cst_4
  let main_v17 : IVec S96x96x3x3 1 := cmpf .olt main_v15 main_v16
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_v2 main_v5 main_v8 main_v11 main_v14 main_v17
-- ==== Kernel.lean ====
abbrev S4x96x128x128 : Shape := ⟨4, ![4, 96, 128, 128]⟩
abbrev S96x96x3x3 : Shape := ⟨4, ![96, 96, 3, 3]⟩
abbrev S96x96 : Shape := ⟨2, ![96, 96]⟩
abbrev S1 : Shape := ⟨1, ![1]⟩
abbrev S96 : Shape := ⟨1, ![96]⟩
abbrev S288x96 : Shape := ⟨2, ![288, 96]⟩
abbrev S288 : Shape := ⟨1, ![288]⟩
abbrev S384x96 : Shape := ⟨2, ![384, 96]⟩
abbrev S384 : Shape := ⟨1, ![384]⟩
abbrev S96x384 : Shape := ⟨2, ![96, 384]⟩
abbrev S24x96 : Shape := ⟨2, ![24, 96]⟩
abbrev S24 : Shape := ⟨1, ![24]⟩
abbrev S1x24 : Shape := ⟨2, ![1, 24]⟩
abbrev S128x128 : Shape := ⟨2, ![128, 128]⟩
abbrev S_ : Shape := ⟨0, ![]⟩
abbrev S96x96x1x1 : Shape := ⟨4, ![96, 96, 1, 1]⟩
abbrev S2 : Shape := ⟨1, ![2]⟩
abbrev S96x576 : Shape := ⟨2, ![96, 576]⟩
abbrev S288x576 : Shape := ⟨2, ![288, 576]⟩
abbrev S96x1 : Shape := ⟨2, ![96, 1]⟩
abbrev S96x2048 : Shape := ⟨2, ![96, 2048]⟩
abbrev S384x1 : Shape := ⟨2, ![384, 1]⟩
abbrev S384x2048 : Shape := ⟨2, ![384, 2048]⟩
abbrev S4x96x132x128 : Shape := ⟨4, ![4, 96, 132, 128]⟩
abbrev S4x96x68x128 : Shape := ⟨4, ![4, 96, 68, 128]⟩
abbrev S4x1x96x68x128 : Shape := ⟨5, ![4, 1, 96, 68, 128]⟩
abbrev S4x2x96x68x128 : Shape := ⟨5, ![4, 2, 96, 68, 128]⟩
abbrev S4x2x96x8704 : Shape := ⟨4, ![4, 2, 96, 8704]⟩
abbrev S4x96x16384 : Shape := ⟨3, ![4, 96, 16384]⟩
abbrev S1x1x96x8704 : Shape := ⟨4, ![1, 1, 96, 8704]⟩
abbrev S1x96x8192 : Shape := ⟨3, ![1, 96, 8192]⟩
abbrev S576x2304 : Shape := ⟨2, ![576, 2304]⟩
abbrev S1x2048 : Shape := ⟨2, ![1, 2048]⟩
abbrev S1x1x96x2304 : Shape := ⟨4, ![1, 1, 96, 2304]⟩
abbrev S96x2304 : Shape := ⟨2, ![96, 2304]⟩
abbrev S288x2304 : Shape := ⟨2, ![288, 2304]⟩
abbrev S1x1x96x2048 : Shape := ⟨4, ![1, 1, 96, 2048]⟩
abbrev S2048 : Shape := ⟨1, ![2048]⟩
abbrev S1x96x2048 : Shape := ⟨3, ![1, 96, 2048]⟩
abbrev S4x128x128 : Shape := ⟨3, ![4, 128, 128]⟩
abbrev S1x8x128x128 : Shape := ⟨4, ![1, 8, 128, 128]⟩
abbrev S1x128x128 : Shape := ⟨3, ![1, 128, 128]⟩
abbrev S128x1024 : Shape := ⟨2, ![128, 1024]⟩
abbrev S8x128x128 : Shape := ⟨3, ![8, 128, 128]⟩
abbrev S1024x128 : Shape := ⟨2, ![1024, 128]⟩
abbrev S96x24 : Shape := ⟨2, ![96, 24]⟩
abbrev S1x128 : Shape := ⟨2, ![1, 128]⟩
abbrev S1x1 : Shape := ⟨2, ![1, 1]⟩
abbrev S4x1x128 : Shape := ⟨3, ![4, 1, 128]⟩
abbrev S1x1x128 : Shape := ⟨3, ![1, 1, 128]⟩
abbrev S128 : Shape := ⟨1, ![128]⟩
abbrev S1x1x1 : Shape := ⟨3, ![1, 1, 1]⟩
abbrev S4x1x1 : Shape := ⟨3, ![4, 1, 1]⟩
abbrev S4 : Shape := ⟨1, ![4]⟩
abbrev S1x96x4096 : Shape := ⟨3, ![1, 96, 4096]⟩

abbrev nBuf : Space → Nat
  | .hbm => 179
  | .vmem => 43
  | .smem => 1
  | _ => 0

abbrev hbmTy0_0 (i : Nat) : BufTy := match i % 128 with
  | 0 => ⟨S4x96x128x128, .f32⟩
  | 1 => ⟨S4x96x128x128, .f32⟩
  | 2 => ⟨S96x96x3x3, .f32⟩
  | 3 => ⟨S96x96, .f32⟩
  | 4 => ⟨S1, .f32⟩
  | 5 => ⟨S96x96x3x3, .f32⟩
  | 6 => ⟨S96x96, .f32⟩
  | 7 => ⟨S1, .f32⟩
  | 8 => ⟨S96, .f32⟩
  | 9 => ⟨S96, .f32⟩
  | 10 => ⟨S288x96, .f32⟩
  | 11 => ⟨S288, .f32⟩
  | 12 => ⟨S96x96, .f32⟩
  | 13 => ⟨S96, .f32⟩
  | 14 => ⟨S96, .f32⟩
  | 15 => ⟨S96, .f32⟩
  | 16 => ⟨S384x96, .f32⟩
  | 17 => ⟨S384, .f32⟩
  | 18 => ⟨S96x384, .f32⟩
  | 19 => ⟨S96, .f32⟩
  | 20 => ⟨S24x96, .f32⟩
  | 21 => ⟨S24, .f32⟩
  | 22 => ⟨S1x24, .f32⟩
  | 23 => ⟨S1, .f32⟩
  | 24 => ⟨S128x128, .f32⟩
  | 25 => ⟨S128x128, .f32⟩
  | 26 => ⟨S_, .f32⟩
  | 27 => ⟨S96x96, .f32⟩
  | 28 => ⟨S96x96, .f32⟩
  | 29 => ⟨S_, .f32⟩
  | 30 => ⟨S96x96, .f32⟩
  | 31 => ⟨S96x96, .f32⟩
  | 32 => ⟨S96x96, .f32⟩
  | 33 => ⟨S96x96x1x1, .f32⟩
  | 34 => ⟨S96x96, .f32⟩
  | 35 => ⟨S96x96, .f32⟩
  | 36 => ⟨S_, .i32⟩
  | 37 => ⟨S1, .i32⟩
  | 38 => ⟨S_, .i32⟩
  | 39 => ⟨S1, .i32⟩
  | 40 => ⟨S2, .i32⟩
  | 41 => ⟨S96x96x3x3, .f32⟩
  | 42 => ⟨S_, .f32⟩
  | 43 => ⟨S96x96, .f32⟩
  | 44 => ⟨S96x96, .f32⟩
  | 45 => ⟨S_, .f32⟩
  | 46 => ⟨S96x96, .f32⟩
  | 47 => ⟨S96x96, .f32⟩
  | 48 => ⟨S96x96, .f32⟩
  | 49 => ⟨S96x96x1x1, .f32⟩
  | 50 => ⟨S96x96, .f32⟩
  | 51 => ⟨S96x96, .f32⟩
  | 52 => ⟨S_, .i32⟩
  | 53 => ⟨S1, .i32⟩
  | 54 => ⟨S_, .i32⟩
  | 55 => ⟨S1, .i32⟩
  | 56 => ⟨S2, .i32⟩
  | 57 => ⟨S96x96x3x3, .f32⟩
  | 58 => ⟨S96x96x1x1, .f32⟩
  | 59 => ⟨S96x96, .f32⟩
  | 60 => ⟨S96x96x1x1, .f32⟩
  | 61 => ⟨S96x96, .f32⟩
  | 62 => ⟨S96x96x1x1, .f32⟩
  | 63 => ⟨S96x96, .f32⟩
  | 64 => ⟨S96x96x1x1, .f32⟩
  | 65 => ⟨S96x96, .f32⟩
  | 66 => ⟨S96x96x1x1, .f32⟩
  | 67 => ⟨S96x96, .f32⟩
  | 68 => ⟨S96x96x1x1, .f32⟩
  | 69 => ⟨S96x96, .f32⟩
  | 70 => ⟨S96x576, .f32⟩
  | 71 => ⟨S96x96x1x1, .f32⟩
  | 72 => ⟨S96x96, .f32⟩
  | 73 => ⟨S96x96x1x1, .f32⟩
  | 74 => ⟨S96x96, .f32⟩
  | 75 => ⟨S96x96x1x1, .f32⟩
  | 76 => ⟨S96x96, .f32⟩
  | 77 => ⟨S96x96x1x1, .f32⟩
  | 78 => ⟨S96x96, .f32⟩
  | 79 => ⟨S96x96x1x1, .f32⟩
  | 80 => ⟨S96x96, .f32⟩
  | 81 => ⟨S96x96x1x1, .f32⟩
  | 82 => ⟨S96x96, .f32⟩
  | 83 => ⟨S96x576, .f32⟩
  | 84 => ⟨S96x96x1x1, .f32⟩
  | 85 => ⟨S96x96, .f32⟩
  | 86 => ⟨S96x96x1x1, .f32⟩
  | 87 => ⟨S96x96, .f32⟩
  | 88 => ⟨S96x96x1x1, .f32⟩
  | 89 => ⟨S96x96, .f32⟩
  | 90 => ⟨S96x96x1x1, .f32⟩
  | 91 => ⟨S96x96, .f32⟩
  | 92 => ⟨S96x96x1x1, .f32⟩
  | 93 => ⟨S96x96, .f32⟩
  | 94 => ⟨S96x96x1x1, .f32⟩
  | 95 => ⟨S96x96, .f32⟩
  | 96 => ⟨S96x576, .f32⟩
  | 97 => ⟨S288x576, .f32⟩
  | 98 => ⟨S96x96, .f32⟩
  | 99 => ⟨S96, .f32⟩
  | 100 => ⟨S96x96, .f32⟩
  | 101 => ⟨S96, .f32⟩
  | 102 => ⟨S96, .f32⟩
  | 103 => ⟨S96x1, .f32⟩
  | 104 => ⟨S96x2048, .f32⟩
  | 105 => ⟨S96x1, .f32⟩
  | 106 => ⟨S96x2048, .f32⟩
  | 107 => ⟨S96x1, .f32⟩
  | 108 => ⟨S96x2048, .f32⟩
  | 109 => ⟨S96x1, .f32⟩
  | 110 => ⟨S96x2048, .f32⟩
  | 111 => ⟨S96x1, .f32⟩
  | 112 => ⟨S96x2048, .f32⟩
  | 113 => ⟨S384x1, .f32⟩
  | 114 => ⟨S384x2048, .f32⟩
  | 115 => ⟨S96x1, .f32⟩
  | 116 => ⟨S96x2048, .f32⟩
  | 117 => ⟨S_, .i32⟩
  | 118 => ⟨S_, .f32⟩
  | 119 => ⟨S4x96x132x128, .f32⟩
  | 120 => ⟨S4x96x68x128, .f32⟩
  | 121 => ⟨S4x96x68x128, .f32⟩
  | 122 => ⟨S4x1x96x68x128, .f32⟩
  | 123 => ⟨S4x1x96x68x128, .f32⟩
  | 124 => ⟨S4x2x96x68x128, .f32⟩
  | 125 => ⟨S4x2x96x8704, .f32⟩
  | 126 => ⟨S_, .i32⟩
  | 127 => ⟨S_, .f32⟩
  | _ => ⟨S4x96x128x128, .f32⟩

abbrev hbmTy0_1 (i : Nat) : BufTy := match i % 128 with
  | 0 => ⟨S4x96x132x128, .f32⟩
  | 1 => ⟨S4x96x68x128, .f32⟩
  | 2 => ⟨S4x96x68x128, .f32⟩
  | 3 => ⟨S4x1x96x68x128, .f32⟩
  | 4 => ⟨S4x1x96x68x128, .f32⟩
  | 5 => ⟨S4x2x96x68x128, .f32⟩
  | 6 => ⟨S4x2x96x8704, .f32⟩
  | 7 => ⟨S4x96x16384, .f32⟩
  | 8 => ⟨S4x96x128x128, .f32⟩
  | 9 => ⟨S128x128, .f32⟩
  | 10 => ⟨S_, .f32⟩
  | 11 => ⟨S128x128, .f32⟩
  | 12 => ⟨S128x128, .f32⟩
  | 13 => ⟨S4x128x128, .f32⟩
  | 14 => ⟨S_, .f32⟩
  | 15 => ⟨S128x128, .f32⟩
  | 16 => ⟨S96x24, .f32⟩
  | 17 => ⟨S_, .i32⟩
  | 18 => ⟨S1, .i32⟩
  | 19 => ⟨S_, .i32⟩
  | 20 => ⟨S1, .i32⟩
  | 21 => ⟨S2, .i32⟩
  | 22 => ⟨S128x128, .f32⟩
  | 23 => ⟨S_, .f32⟩
  | 24 => ⟨S1x128, .f32⟩
  | 25 => ⟨S_, .i32⟩
  | 26 => ⟨S1, .i32⟩
  | 27 => ⟨S_, .i32⟩
  | 28 => ⟨S1, .i32⟩
  | 29 => ⟨S2, .i32⟩
  | 30 => ⟨S1x128, .f32⟩
  | 31 => ⟨S_, .f32⟩
  | 32 => ⟨S1x128, .f32⟩
  | 33 => ⟨S24, .f32⟩
  | 34 => ⟨S_, .i32⟩
  | 35 => ⟨S1, .i32⟩
  | 36 => ⟨S_, .i32⟩
  | 37 => ⟨S1, .i32⟩
  | 38 => ⟨S2, .i32⟩
  | 39 => ⟨S1x128, .f32⟩
  | 40 => ⟨S1x1, .f32⟩
  | 41 => ⟨S1x128, .f32⟩
  | 42 => ⟨S4x1x128, .f32⟩
  | 43 => ⟨S4x1x1, .f32⟩
  | 44 => ⟨S4, .f32⟩
  | 45 => ⟨S4x96x16384, .f32⟩
  | 46 => ⟨S4x96x16384, .f32⟩
  | 47 => ⟨S4x96x16384, .f32⟩
  | 48 => ⟨S4x96x16384, .f32⟩
  | 49 => ⟨S4x96x128x128, .f32⟩
  | 50 => ⟨S4x96x128x128, .f32⟩
  | _ => ⟨S4x96x128x128, .f32⟩

abbrev hbmTy (i : Nat) : BufTy := match i / 128 with
  | 0 => hbmTy0_0 i
  | 1 => hbmTy0_1 i
  | _ => ⟨S4x96x128x128, .f32⟩

abbrev bufTy : (tb : Table) → Fin (tcTables nBuf tb) → BufTy
  | .hbm, ⟨i, _⟩ => hbmTy i
  | .local _ .vmem, ⟨0, _⟩ => ⟨S1x1x96x8704, .f32⟩
  | .local _ .vmem, ⟨1, _⟩ => ⟨S1x1x96x8704, .f32⟩
  | .local _ .vmem, ⟨2, _⟩ => ⟨S1x1x96x8704, .f32⟩
  | .local _ .vmem, ⟨3, _⟩ => ⟨S1x1x96x8704, .f32⟩
  | .local _ .vmem, ⟨4, _⟩ => ⟨S288x576, .f32⟩
  | .local _ .vmem, ⟨5, _⟩ => ⟨S96x96, .f32⟩
  | .local _ .vmem, ⟨6, _⟩ => ⟨S96x2048, .f32⟩
  | .local _ .vmem, ⟨7, _⟩ => ⟨S96x2048, .f32⟩
  | .local _ .vmem, ⟨8, _⟩ => ⟨S96x2048, .f32⟩
  | .local _ .vmem, ⟨9, _⟩ => ⟨S96x2048, .f32⟩
  | .local _ .vmem, ⟨10, _⟩ => ⟨S96x2048, .f32⟩
  | .local _ .vmem, ⟨11, _⟩ => ⟨S384x96, .f32⟩
  | .local _ .vmem, ⟨12, _⟩ => ⟨S384x2048, .f32⟩
  | .local _ .vmem, ⟨13, _⟩ => ⟨S96x384, .f32⟩
  | .local _ .vmem, ⟨14, _⟩ => ⟨S96x2048, .f32⟩
  | .local _ .vmem, ⟨15, _⟩ => ⟨S1x96x8192, .f32⟩
  | .local _ .vmem, ⟨16, _⟩ => ⟨S1x96x8192, .f32⟩
  | .local _ .vmem, ⟨17, _⟩ => ⟨S576x2304, .f32⟩
  | .local _ .vmem, ⟨18, _⟩ => ⟨S1x8x128x128, .f32⟩
  | .local _ .vmem, ⟨19, _⟩ => ⟨S1x8x128x128, .f32⟩
  | .local _ .vmem, ⟨20, _⟩ => ⟨S128x128, .f32⟩
  | .local _ .vmem, ⟨21, _⟩ => ⟨S128x128, .f32⟩
  | .local _ .vmem, ⟨22, _⟩ => ⟨S1x128x128, .f32⟩
  | .local _ .vmem, ⟨23, _⟩ => ⟨S1x128x128, .f32⟩
  | .local _ .vmem, ⟨24, _⟩ => ⟨S128x1024, .f32⟩
  | .local _ .vmem, ⟨25, _⟩ => ⟨S1x128x128, .f32⟩
  | .local _ .vmem, ⟨26, _⟩ => ⟨S1x128x128, .f32⟩
  | .local _ .vmem, ⟨27, _⟩ => ⟨S128x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x1x128, .f32⟩
  | .local _ .vmem, ⟨32, _⟩ => ⟨S1x1x128, .f32⟩
  | .local _ .vmem, ⟨33, _⟩ => ⟨S1x96x4096, .f32⟩
  | .local _ .vmem, ⟨34, _⟩ => ⟨S1x96x4096, .f32⟩
  | .local _ .vmem, ⟨35, _⟩ => ⟨S1x96x4096, .f32⟩
  | .local _ .vmem, ⟨36, _⟩ => ⟨S1x96x4096, .f32⟩
  | .local _ .vmem, ⟨37, _⟩ => ⟨S1x96x4096, .f32⟩
  | .local _ .vmem, ⟨38, _⟩ => ⟨S1x96x4096, .f32⟩
  | .local _ .vmem, ⟨39, _⟩ => ⟨S1x96x4096, .f32⟩
  | .local _ .vmem, ⟨40, _⟩ => ⟨S1x96x4096, .f32⟩
  | .local _ .vmem, ⟨41, _⟩ => ⟨S1x96x4096, .f32⟩
  | .local _ .vmem, ⟨42, _⟩ => ⟨S1x96x4096, .f32⟩
  | .local _ .smem, ⟨0, _⟩ => ⟨S4, .f32⟩
  | _, _ => ⟨S4x96x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .smem, ⟨0, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_cst : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c : Ref sig .tc := ⟨.hbm, 36, rfl⟩
abbrev main_v9 : Ref sig .tc := ⟨.hbm, 37, rfl⟩
abbrev main_c_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_1 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_2 : Ref sig .tc := ⟨.hbm, 52, rfl⟩
abbrev main_v22 : Ref sig .tc := ⟨.hbm, 53, rfl⟩
abbrev main_c_3 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c_4 : Ref sig .tc := ⟨.hbm, 117, rfl⟩
abbrev main_call0_v0 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_5 : Ref sig .tc := ⟨.hbm, 126, rfl⟩
abbrev main_call1_v0 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_6 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_7 : Ref sig .tc := ⟨.hbm, 142, rfl⟩
abbrev main_v105 : Ref sig .tc := ⟨.hbm, 143, rfl⟩
abbrev main_v106 : Ref sig .tc := ⟨.hbm, 144, rfl⟩
abbrev main_c_8 : Ref sig .tc := ⟨.hbm, 145, rfl⟩
abbrev main_v107 : Ref sig .tc := ⟨.hbm, 146, rfl⟩
abbrev main_c_9 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_10 : Ref sig .tc := ⟨.hbm, 151, rfl⟩
abbrev main_v111 : Ref sig .tc := ⟨.hbm, 152, rfl⟩
abbrev main_c_11 : Ref sig .tc := ⟨.hbm, 153, rfl⟩
abbrev main_v112 : Ref sig .tc := ⟨.hbm, 154, rfl⟩
abbrev main_c_12 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_13 : Ref sig .tc := ⟨.hbm, 159, rfl⟩
abbrev main_v116 : Ref sig .tc := ⟨.hbm, 160, rfl⟩
abbrev main_v117 : Ref sig .tc := ⟨.hbm, 161, rfl⟩
abbrev main_c_14 : Ref sig .tc := ⟨.hbm, 162, rfl⟩
abbrev main_v118 : Ref sig .tc := ⟨.hbm, 163, rfl⟩
abbrev main_c_15 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129_0 : Ref sig .tc := ⟨.hbm, 175, rfl⟩
abbrev main_v129_1 : Ref sig .tc := ⟨.hbm, 176, rfl⟩
abbrev main_v130 : Ref sig .tc := ⟨.hbm, 177, rfl⟩
abbrev main_v131 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg3_1 : Ref sig .tc := ⟨.vmem, 23, rfl⟩
abbrev cc1_scratch0 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg5_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc3_stg4_0 : Ref sig .tc := ⟨.vmem, 39, rfl⟩
abbrev cc3_stg4_1 : Ref sig .tc := ⟨.vmem, 40, rfl⟩
abbrev cc3_stg5_0 : Ref sig .tc := ⟨.vmem, 41, rfl⟩
abbrev cc3_stg5_1 : Ref sig .tc := ⟨.vmem, 42, rfl⟩
abbrev cc3_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem3_0 : DmaSem sig := 21
abbrev cc1_sem3_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc3_sem0_0 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc3_sem5_0 : DmaSem sig := 40
abbrev cc3_sem5_1 : DmaSem sig := 41

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x96x8704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x96x8704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S288x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S96x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S96x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S96x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S96x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S96x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S384x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S384x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S96x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S96x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x96x8192 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev grid1 : Pipeline.Grid := ⟨2, ![4, 12], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![4], ![false]⟩

@[reducible] def k2_t1_loop : Scf.Loop 32 :=
  let c0_i32 : BitVec 32 := 0#32
  let c96_i32 : BitVec 32 := 96#32
  let v9 : BitVec 32 := Scalar.addi c0_i32 c96_i32
  let c1_i32 : BitVec 32 := 1#32
  ⟨c0_i32, v9, c1_i32⟩
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x1x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![4, 4], ![false, false]⟩

def k3_off1 (i : grid3.Coords) : Fin 1 → Nat :=
  let arg0 : BitVec 32 := BitVec.ofNat 32 (i 0).val
  let v0 : Index := Scalar.indexCast arg0
  ![v0.toNat]
def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage3_0 : Fin 1 → Memref sig .tc .smem S4 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 2 → Memref sig .tc .vmem S1x96x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x96x4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x96x4096 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x96x4096 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x96x4096 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]
-- ==== ReferenceIdeal.lean ====
abbrev S4x96x128x128 : Shape := ⟨4, ![4, 96, 128, 128]⟩
abbrev S96x96x3x3 : Shape := ⟨4, ![96, 96, 3, 3]⟩
abbrev S96x96 : Shape := ⟨2, ![96, 96]⟩
abbrev S1 : Shape := ⟨1, ![1]⟩
abbrev S96 : Shape := ⟨1, ![96]⟩
abbrev S288x96 : Shape := ⟨2, ![288, 96]⟩
abbrev S288 : Shape := ⟨1, ![288]⟩
abbrev S384x96 : Shape := ⟨2, ![384, 96]⟩
abbrev S384 : Shape := ⟨1, ![384]⟩
abbrev S96x384 : Shape := ⟨2, ![96, 384]⟩
abbrev S24x96 : Shape := ⟨2, ![24, 96]⟩
abbrev S24 : Shape := ⟨1, ![24]⟩
abbrev S1x24 : Shape := ⟨2, ![1, 24]⟩
abbrev S128x128 : Shape := ⟨2, ![128, 128]⟩
abbrev S_ : Shape := ⟨0, ![]⟩
abbrev S96x96x1x1 : Shape := ⟨4, ![96, 96, 1, 1]⟩
abbrev S2 : Shape := ⟨1, ![2]⟩
abbrev S4x96x130x130 : Shape := ⟨4, ![4, 96, 130, 130]⟩
abbrev S4x96x16384 : Shape := ⟨3, ![4, 96, 16384]⟩
abbrev S4x16384x96 : Shape := ⟨3, ![4, 16384, 96]⟩
abbrev S4x96 : Shape := ⟨2, ![4, 96]⟩
abbrev S4x96x1x1 : Shape := ⟨4, ![4, 96, 1, 1]⟩
abbrev S4x128x128x96 : Shape := ⟨4, ![4, 128, 128, 96]⟩
abbrev S4x16384 : Shape := ⟨2, ![4, 16384]⟩
abbrev S4x16384x1 : Shape := ⟨3, ![4, 16384, 1]⟩
abbrev S1x1x96 : Shape := ⟨3, ![1, 1, 96]⟩
abbrev S4x16384x384 : Shape := ⟨3, ![4, 16384, 384]⟩
abbrev S1x1x384 : Shape := ⟨3, ![1, 1, 384]⟩
abbrev S4x128x128 : Shape := ⟨3, ![4, 128, 128]⟩
abbrev S96x24 : Shape := ⟨2, ![96, 24]⟩
abbrev S4x24 : Shape := ⟨2, ![4, 24]⟩
abbrev S24x1 : Shape := ⟨2, ![24, 1]⟩
abbrev S4x1 : Shape := ⟨2, ![4, 1]⟩
abbrev S1x1 : Shape := ⟨2, ![1, 1]⟩
abbrev S4x1x1x1 : Shape := ⟨4, ![4, 1, 1, 1]⟩

abbrev nBuf : Space → Nat
  | .hbm => 398
  | .vmem => 0
  | .smem => 0
  | _ => 0

abbrev hbmTy0_0 (i : Nat) : BufTy := match i % 128 with
  | 0 => ⟨S4x96x128x128, .f32⟩
  | 1 => ⟨S4x96x128x128, .f32⟩
  | 2 => ⟨S96x96x3x3, .f32⟩
  | 3 => ⟨S96x96, .f32⟩
  | 4 => ⟨S1, .f32⟩
  | 5 => ⟨S96x96x3x3, .f32⟩
  | 6 => ⟨S96x96, .f32⟩
  | 7 => ⟨S1, .f32⟩
  | 8 => ⟨S96, .f32⟩
  | 9 => ⟨S96, .f32⟩
  | 10 => ⟨S288x96, .f32⟩
  | 11 => ⟨S288, .f32⟩
  | 12 => ⟨S96x96, .f32⟩
  | 13 => ⟨S96, .f32⟩
  | 14 => ⟨S96, .f32⟩
  | 15 => ⟨S96, .f32⟩
  | 16 => ⟨S384x96, .f32⟩
  | 17 => ⟨S384, .f32⟩
  | 18 => ⟨S96x384, .f32⟩
  | 19 => ⟨S96, .f32⟩
  | 20 => ⟨S24x96, .f32⟩
  | 21 => ⟨S24, .f32⟩
  | 22 => ⟨S1x24, .f32⟩
  | 23 => ⟨S1, .f32⟩
  | 24 => ⟨S128x128, .f32⟩
  | 25 => ⟨S128x128, .f32⟩
  | 26 => ⟨S96x96, .f32⟩
  | 27 => ⟨S96x96, .f32⟩
  | 28 => ⟨S4x96x128x128, .f32⟩
  | 29 => ⟨S_, .f32⟩
  | 30 => ⟨S96x96, .f32⟩
  | 31 => ⟨S96x96, .f32⟩
  | 32 => ⟨S_, .f32⟩
  | 33 => ⟨S96x96, .f32⟩
  | 34 => ⟨S96x96, .f32⟩
  | 35 => ⟨S96x96, .f32⟩
  | 36 => ⟨S96x96x1x1, .f32⟩
  | 37 => ⟨S96x96, .f32⟩
  | 38 => ⟨S96x96, .f32⟩
  | 39 => ⟨S_, .i32⟩
  | 40 => ⟨S1, .i32⟩
  | 41 => ⟨S_, .i32⟩
  | 42 => ⟨S1, .i32⟩
  | 43 => ⟨S2, .i32⟩
  | 44 => ⟨S96x96x3x3, .f32⟩
  | 45 => ⟨S_, .i32⟩
  | 46 => ⟨S_, .f32⟩
  | 47 => ⟨S4x96x130x130, .f32⟩
  | 48 => ⟨S4x96x128x128, .f32⟩
  | 49 => ⟨S4x96x16384, .f32⟩
  | 50 => ⟨S96x96x1x1, .f32⟩
  | 51 => ⟨S96x96, .f32⟩
  | 52 => ⟨S4x16384x96, .f32⟩
  | 53 => ⟨S4x96x128x128, .f32⟩
  | 54 => ⟨S4x96x16384, .f32⟩
  | 55 => ⟨S96x96x1x1, .f32⟩
  | 56 => ⟨S96x96, .f32⟩
  | 57 => ⟨S4x16384x96, .f32⟩
  | 58 => ⟨S4x16384x96, .f32⟩
  | 59 => ⟨S4x96x128x128, .f32⟩
  | 60 => ⟨S4x96x16384, .f32⟩
  | 61 => ⟨S96x96x1x1, .f32⟩
  | 62 => ⟨S96x96, .f32⟩
  | 63 => ⟨S4x16384x96, .f32⟩
  | 64 => ⟨S4x16384x96, .f32⟩
  | 65 => ⟨S4x96x128x128, .f32⟩
  | 66 => ⟨S4x96x16384, .f32⟩
  | 67 => ⟨S96x96x1x1, .f32⟩
  | 68 => ⟨S96x96, .f32⟩
  | 69 => ⟨S4x16384x96, .f32⟩
  | 70 => ⟨S4x16384x96, .f32⟩
  | 71 => ⟨S4x96x128x128, .f32⟩
  | 72 => ⟨S4x96x16384, .f32⟩
  | 73 => ⟨S96x96x1x1, .f32⟩
  | 74 => ⟨S96x96, .f32⟩
  | 75 => ⟨S4x16384x96, .f32⟩
  | 76 => ⟨S4x16384x96, .f32⟩
  | 77 => ⟨S4x96x128x128, .f32⟩
  | 78 => ⟨S4x96x16384, .f32⟩
  | 79 => ⟨S96x96x1x1, .f32⟩
  | 80 => ⟨S96x96, .f32⟩
  | 81 => ⟨S4x16384x96, .f32⟩
  | 82 => ⟨S4x16384x96, .f32⟩
  | 83 => ⟨S4x96x128x128, .f32⟩
  | 84 => ⟨S4x96x16384, .f32⟩
  | 85 => ⟨S96x96x1x1, .f32⟩
  | 86 => ⟨S96x96, .f32⟩
  | 87 => ⟨S4x16384x96, .f32⟩
  | 88 => ⟨S4x16384x96, .f32⟩
  | 89 => ⟨S4x96x128x128, .f32⟩
  | 90 => ⟨S4x96x16384, .f32⟩
  | 91 => ⟨S96x96x1x1, .f32⟩
  | 92 => ⟨S96x96, .f32⟩
  | 93 => ⟨S4x16384x96, .f32⟩
  | 94 => ⟨S4x16384x96, .f32⟩
  | 95 => ⟨S4x96x128x128, .f32⟩
  | 96 => ⟨S4x96x16384, .f32⟩
  | 97 => ⟨S96x96x1x1, .f32⟩
  | 98 => ⟨S96x96, .f32⟩
  | 99 => ⟨S4x16384x96, .f32⟩
  | 100 => ⟨S4x16384x96, .f32⟩
  | 101 => ⟨S4x96x16384, .f32⟩
  | 102 => ⟨S4x96x128x128, .f32⟩
  | 103 => ⟨S_, .f32⟩
  | 104 => ⟨S96x96, .f32⟩
  | 105 => ⟨S96x96, .f32⟩
  | 106 => ⟨S_, .f32⟩
  | 107 => ⟨S96x96, .f32⟩
  | 108 => ⟨S96x96, .f32⟩
  | 109 => ⟨S96x96, .f32⟩
  | 110 => ⟨S96x96x1x1, .f32⟩
  | 111 => ⟨S96x96, .f32⟩
  | 112 => ⟨S96x96, .f32⟩
  | 113 => ⟨S_, .i32⟩
  | 114 => ⟨S1, .i32⟩
  | 115 => ⟨S_, .i32⟩
  | 116 => ⟨S1, .i32⟩
  | 117 => ⟨S2, .i32⟩
  | 118 => ⟨S96x96x3x3, .f32⟩
  | 119 => ⟨S_, .i32⟩
  | 120 => ⟨S_, .f32⟩
  | 121 => ⟨S4x96x130x130, .f32⟩
  | 122 => ⟨S4x96x128x128, .f32⟩
  | 123 => ⟨S4x96x16384, .f32⟩
  | 124 => ⟨S96x96x1x1, .f32⟩
  | 125 => ⟨S96x96, .f32⟩
  | 126 => ⟨S4x16384x96, .f32⟩
  | 127 => ⟨S4x96x128x128, .f32⟩
  | _ => ⟨S4x96x128x128, .f32⟩

abbrev hbmTy0_1 (i : Nat) : BufTy := match i % 128 with
  | 0 => ⟨S4x96x16384, .f32⟩
  | 1 => ⟨S96x96x1x1, .f32⟩
  | 2 => ⟨S96x96, .f32⟩
  | 3 => ⟨S4x16384x96, .f32⟩
  | 4 => ⟨S4x16384x96, .f32⟩
  | 5 => ⟨S4x96x128x128, .f32⟩
  | 6 => ⟨S4x96x16384, .f32⟩
  | 7 => ⟨S96x96x1x1, .f32⟩
  | 8 => ⟨S96x96, .f32⟩
  | 9 => ⟨S4x16384x96, .f32⟩
  | 10 => ⟨S4x16384x96, .f32⟩
  | 11 => ⟨S4x96x128x128, .f32⟩
  | 12 => ⟨S4x96x16384, .f32⟩
  | 13 => ⟨S96x96x1x1, .f32⟩
  | 14 => ⟨S96x96, .f32⟩
  | 15 => ⟨S4x16384x96, .f32⟩
  | 16 => ⟨S4x16384x96, .f32⟩
  | 17 => ⟨S4x96x128x128, .f32⟩
  | 18 => ⟨S4x96x16384, .f32⟩
  | 19 => ⟨S96x96x1x1, .f32⟩
  | 20 => ⟨S96x96, .f32⟩
  | 21 => ⟨S4x16384x96, .f32⟩
  | 22 => ⟨S4x16384x96, .f32⟩
  | 23 => ⟨S4x96x128x128, .f32⟩
  | 24 => ⟨S4x96x16384, .f32⟩
  | 25 => ⟨S96x96x1x1, .f32⟩
  | 26 => ⟨S96x96, .f32⟩
  | 27 => ⟨S4x16384x96, .f32⟩
  | 28 => ⟨S4x16384x96, .f32⟩
  | 29 => ⟨S4x96x128x128, .f32⟩
  | 30 => ⟨S4x96x16384, .f32⟩
  | 31 => ⟨S96x96x1x1, .f32⟩
  | 32 => ⟨S96x96, .f32⟩
  | 33 => ⟨S4x16384x96, .f32⟩
  | 34 => ⟨S4x16384x96, .f32⟩
  | 35 => ⟨S4x96x128x128, .f32⟩
  | 36 => ⟨S4x96x16384, .f32⟩
  | 37 => ⟨S96x96x1x1, .f32⟩
  | 38 => ⟨S96x96, .f32⟩
  | 39 => ⟨S4x16384x96, .f32⟩
  | 40 => ⟨S4x16384x96, .f32⟩
  | 41 => ⟨S4x96x128x128, .f32⟩
  | 42 => ⟨S4x96x16384, .f32⟩
  | 43 => ⟨S96x96x1x1, .f32⟩
  | 44 => ⟨S96x96, .f32⟩
  | 45 => ⟨S4x16384x96, .f32⟩
  | 46 => ⟨S4x16384x96, .f32⟩
  | 47 => ⟨S4x96x16384, .f32⟩
  | 48 => ⟨S4x96x128x128, .f32⟩
  | 49 => ⟨S4x96x128x128, .f32⟩
  | 50 => ⟨S_, .f32⟩
  | 51 => ⟨S4x96, .f32⟩
  | 52 => ⟨S4x96x1x1, .f32⟩
  | 53 => ⟨S_, .f32⟩
  | 54 => ⟨S4x96x1x1, .f32⟩
  | 55 => ⟨S4x96x1x1, .f32⟩
  | 56 => ⟨S4x96x1x1, .f32⟩
  | 57 => ⟨S4x96x1x1, .f32⟩
  | 58 => ⟨S_, .f32⟩
  | 59 => ⟨S4x96x1x1, .f32⟩
  | 60 => ⟨S4x96x1x1, .f32⟩
  | 61 => ⟨S_, .f32⟩
  | 62 => ⟨S4x96x1x1, .f32⟩
  | 63 => ⟨S4x96x1x1, .f32⟩
  | 64 => ⟨S4x96x128x128, .f32⟩
  | 65 => ⟨S_, .f32⟩
  | 66 => ⟨S4x96, .f32⟩
  | 67 => ⟨S4x96x1x1, .f32⟩
  | 68 => ⟨S_, .f32⟩
  | 69 => ⟨S4x96x1x1, .f32⟩
  | 70 => ⟨S4x96x1x1, .f32⟩
  | 71 => ⟨S4x96x1x1, .f32⟩
  | 72 => ⟨S4x96x1x1, .f32⟩
  | 73 => ⟨S_, .f32⟩
  | 74 => ⟨S4x96x1x1, .f32⟩
  | 75 => ⟨S4x96x1x1, .f32⟩
  | 76 => ⟨S_, .f32⟩
  | 77 => ⟨S4x96x1x1, .f32⟩
  | 78 => ⟨S4x96x1x1, .f32⟩
  | 79 => ⟨S4x96x128x128, .f32⟩
  | 80 => ⟨S4x96x128x128, .f32⟩
  | 81 => ⟨S4x96x128x128, .f32⟩
  | 82 => ⟨S4x96x128x128, .f32⟩
  | 83 => ⟨S4x96x128x128, .f32⟩
  | 84 => ⟨S4x96x128x128, .f32⟩
  | 85 => ⟨S4x96x128x128, .f32⟩
  | 86 => ⟨S4x96x128x128, .f32⟩
  | 87 => ⟨S4x96x128x128, .f32⟩
  | 88 => ⟨S4x128x128x96, .f32⟩
  | 89 => ⟨S4x16384x96, .f32⟩
  | 90 => ⟨S_, .f32⟩
  | 91 => ⟨S4x16384, .f32⟩
  | 92 => ⟨S4x16384x1, .f32⟩
  | 93 => ⟨S_, .f32⟩
  | 94 => ⟨S4x16384x1, .f32⟩
  | 95 => ⟨S4x16384x1, .f32⟩
  | 96 => ⟨S4x16384x96, .f32⟩
  | 97 => ⟨S4x16384x96, .f32⟩
  | 98 => ⟨S4x16384x96, .f32⟩
  | 99 => ⟨S_, .f32⟩
  | 100 => ⟨S4x16384, .f32⟩
  | 101 => ⟨S4x16384x1, .f32⟩
  | 102 => ⟨S_, .f32⟩
  | 103 => ⟨S4x16384x1, .f32⟩
  | 104 => ⟨S4x16384x1, .f32⟩
  | 105 => ⟨S4x16384x96, .f32⟩
  | 106 => ⟨S4x16384x96, .f32⟩
  | 107 => ⟨S_, .f32⟩
  | 108 => ⟨S4x16384x1, .f32⟩
  | 109 => ⟨S4x16384x1, .f32⟩
  | 110 => ⟨S4x16384x1, .f32⟩
  | 111 => ⟨S4x16384x96, .f32⟩
  | 112 => ⟨S4x16384x96, .f32⟩
  | 113 => ⟨S1x1x96, .f32⟩
  | 114 => ⟨S4x16384x96, .f32⟩
  | 115 => ⟨S4x16384x96, .f32⟩
  | 116 => ⟨S1x1x96, .f32⟩
  | 117 => ⟨S4x16384x96, .f32⟩
  | 118 => ⟨S4x16384x96, .f32⟩
  | 119 => ⟨S4x16384x96, .f32⟩
  | 120 => ⟨S96, .f32⟩
  | 121 => ⟨S1x1x96, .f32⟩
  | 122 => ⟨S4x16384x96, .f32⟩
  | 123 => ⟨S4x16384x96, .f32⟩
  | 124 => ⟨S96x96, .f32⟩
  | 125 => ⟨S4x16384x96, .f32⟩
  | 126 => ⟨S1x1x96, .f32⟩
  | 127 => ⟨S4x16384x96, .f32⟩
  | _ => ⟨S4x96x128x128, .f32⟩

abbrev hbmTy0_2 (i : Nat) : BufTy := match i % 128 with
  | 0 => ⟨S4x16384x96, .f32⟩
  | 1 => ⟨S4x16384x96, .f32⟩
  | 2 => ⟨S_, .f32⟩
  | 3 => ⟨S4x16384, .f32⟩
  | 4 => ⟨S4x16384x1, .f32⟩
  | 5 => ⟨S_, .f32⟩
  | 6 => ⟨S4x16384x1, .f32⟩
  | 7 => ⟨S4x16384x1, .f32⟩
  | 8 => ⟨S4x16384x96, .f32⟩
  | 9 => ⟨S4x16384x96, .f32⟩
  | 10 => ⟨S4x16384x96, .f32⟩
  | 11 => ⟨S_, .f32⟩
  | 12 => ⟨S4x16384, .f32⟩
  | 13 => ⟨S4x16384x1, .f32⟩
  | 14 => ⟨S_, .f32⟩
  | 15 => ⟨S4x16384x1, .f32⟩
  | 16 => ⟨S4x16384x1, .f32⟩
  | 17 => ⟨S4x16384x96, .f32⟩
  | 18 => ⟨S4x16384x96, .f32⟩
  | 19 => ⟨S_, .f32⟩
  | 20 => ⟨S4x16384x1, .f32⟩
  | 21 => ⟨S4x16384x1, .f32⟩
  | 22 => ⟨S4x16384x1, .f32⟩
  | 23 => ⟨S4x16384x96, .f32⟩
  | 24 => ⟨S4x16384x96, .f32⟩
  | 25 => ⟨S1x1x96, .f32⟩
  | 26 => ⟨S4x16384x96, .f32⟩
  | 27 => ⟨S4x16384x96, .f32⟩
  | 28 => ⟨S1x1x96, .f32⟩
  | 29 => ⟨S4x16384x96, .f32⟩
  | 30 => ⟨S4x16384x96, .f32⟩
  | 31 => ⟨S96x384, .f32⟩
  | 32 => ⟨S4x16384x384, .f32⟩
  | 33 => ⟨S1x1x384, .f32⟩
  | 34 => ⟨S4x16384x384, .f32⟩
  | 35 => ⟨S4x16384x384, .f32⟩
  | 36 => ⟨S_, .f32⟩
  | 37 => ⟨S4x16384x384, .f32⟩
  | 38 => ⟨S4x16384x384, .f32⟩
  | 39 => ⟨S_, .f32⟩
  | 40 => ⟨S4x16384x384, .f32⟩
  | 41 => ⟨S4x16384x384, .f32⟩
  | 42 => ⟨S4x16384x384, .f32⟩
  | 43 => ⟨S_, .f32⟩
  | 44 => ⟨S4x16384x384, .f32⟩
  | 45 => ⟨S4x16384x384, .f32⟩
  | 46 => ⟨S_, .f32⟩
  | 47 => ⟨S4x16384x384, .f32⟩
  | 48 => ⟨S4x16384x384, .f32⟩
  | 49 => ⟨S_, .f32⟩
  | 50 => ⟨S4x16384x384, .f32⟩
  | 51 => ⟨S4x16384x384, .f32⟩
  | 52 => ⟨S_, .f32⟩
  | 53 => ⟨S4x16384x384, .f32⟩
  | 54 => ⟨S4x16384x384, .f32⟩
  | 55 => ⟨S4x16384x384, .f32⟩
  | 56 => ⟨S_, .f32⟩
  | 57 => ⟨S4x16384x384, .f32⟩
  | 58 => ⟨S4x16384x384, .f32⟩
  | 59 => ⟨S4x16384x384, .f32⟩
  | 60 => ⟨S4x16384x384, .f32⟩
  | 61 => ⟨S4x16384x384, .f32⟩
  | 62 => ⟨S_, .f32⟩
  | 63 => ⟨S4x16384x384, .f32⟩
  | 64 => ⟨S4x16384x384, .f32⟩
  | 65 => ⟨S4x16384x384, .f32⟩
  | 66 => ⟨S4x16384x384, .f32⟩
  | 67 => ⟨S4x16384x384, .f32⟩
  | 68 => ⟨S_, .f32⟩
  | 69 => ⟨S4x16384x384, .f32⟩
  | 70 => ⟨S4x16384x384, .f32⟩
  | 71 => ⟨S4x16384x384, .f32⟩
  | 72 => ⟨S4x16384x384, .f32⟩
  | 73 => ⟨S4x16384x384, .f32⟩
  | 74 => ⟨S4x16384x384, .f32⟩
  | 75 => ⟨S_, .f32⟩
  | 76 => ⟨S4x16384x384, .f32⟩
  | 77 => ⟨S4x16384x384, .f32⟩
  | 78 => ⟨S4x16384x384, .f32⟩
  | 79 => ⟨S4x16384x384, .f32⟩
  | 80 => ⟨S4x16384x384, .f32⟩
  | 81 => ⟨S4x16384x384, .f32⟩
  | 82 => ⟨S4x16384x384, .f32⟩
  | 83 => ⟨S_, .f32⟩
  | 84 => ⟨S4x16384x384, .f32⟩
  | 85 => ⟨S4x16384x384, .f32⟩
  | 86 => ⟨S_, .f32⟩
  | 87 => ⟨S4x16384x384, .f32⟩
  | 88 => ⟨S4x16384x384, .i1⟩
  | 89 => ⟨S4x16384x384, .f32⟩
  | 90 => ⟨S4x16384x384, .f32⟩
  | 91 => ⟨S_, .f32⟩
  | 92 => ⟨S4x16384x384, .f32⟩
  | 93 => ⟨S4x16384x384, .f32⟩
  | 94 => ⟨S4x16384x384, .f32⟩
  | 95 => ⟨S384x96, .f32⟩
  | 96 => ⟨S4x16384x96, .f32⟩
  | 97 => ⟨S1x1x96, .f32⟩
  | 98 => ⟨S4x16384x96, .f32⟩
  | 99 => ⟨S4x16384x96, .f32⟩
  | 100 => ⟨S4x16384x96, .f32⟩
  | 101 => ⟨S4x128x128x96, .f32⟩
  | 102 => ⟨S4x96x128x128, .f32⟩
  | 103 => ⟨S4x96x128x128, .f32⟩
  | 104 => ⟨S4x96x128x128, .f32⟩
  | 105 => ⟨S4x96x128x128, .f32⟩
  | 106 => ⟨S4x96x128x128, .f32⟩
  | 107 => ⟨S_, .f32⟩
  | 108 => ⟨S4x128x128, .f32⟩
  | 109 => ⟨S_, .f32⟩
  | 110 => ⟨S4x128x128, .f32⟩
  | 111 => ⟨S4x128x128, .f32⟩
  | 112 => ⟨S4x16384, .f32⟩
  | 113 => ⟨S4x96, .f32⟩
  | 114 => ⟨S4x96, .i32⟩
  | 115 => ⟨S96x24, .f32⟩
  | 116 => ⟨S4x24, .f32⟩
  | 117 => ⟨S1x24, .f32⟩
  | 118 => ⟨S4x24, .f32⟩
  | 119 => ⟨S4x24, .f32⟩
  | 120 => ⟨S_, .f32⟩
  | 121 => ⟨S4x24, .f32⟩
  | 122 => ⟨S4x24, .f32⟩
  | 123 => ⟨S24x1, .f32⟩
  | 124 => ⟨S4x1, .f32⟩
  | 125 => ⟨S1x1, .f32⟩
  | 126 => ⟨S4x1, .f32⟩
  | 127 => ⟨S4x1, .f32⟩
  | _ => ⟨S4x96x128x128, .f32⟩

abbrev hbmTy0_3 (i : Nat) : BufTy := match i % 128 with
  | 0 => ⟨S4x1, .f32⟩
  | 1 => ⟨S4x1, .f32⟩
  | 2 => ⟨S_, .f32⟩
  | 3 => ⟨S4x1, .f32⟩
  | 4 => ⟨S4x1, .f32⟩
  | 5 => ⟨S_, .f32⟩
  | 6 => ⟨S4x1, .f32⟩
  | 7 => ⟨S4x1, .f32⟩
  | 8 => ⟨S4x1x1x1, .f32⟩
  | 9 => ⟨S4x96x128x128, .f32⟩
  | 10 => ⟨S4x96x128x128, .f32⟩
  | 11 => ⟨S4x96x128x128, .f32⟩
  | 12 => ⟨S4x96x128x128, .f32⟩
  | 13 => ⟨S4x96x128x128, .f32⟩
  | _ => ⟨S4x96x128x128, .f32⟩

abbrev hbmTy (i : Nat) : BufTy := match i / 128 with
  | 0 => hbmTy0_0 i
  | 1 => hbmTy0_1 i
  | 2 => hbmTy0_2 i
  | 3 => hbmTy0_3 i
  | _ => ⟨S4x96x128x128, .f32⟩

abbrev bufTy : (tb : Table) → Fin (tcTables nBuf tb) → BufTy
  | .hbm, ⟨i, _⟩ => hbmTy i
  | _, _ => ⟨S4x96x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_c : Ref sig .tc := ⟨.hbm, 39, rfl⟩
abbrev main_v12 : Ref sig .tc := ⟨.hbm, 40, rfl⟩
abbrev main_c_0 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c_1 : Ref sig .tc := ⟨.hbm, 45, rfl⟩
abbrev main_call0_v0 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_2 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_3 : Ref sig .tc := ⟨.hbm, 113, rfl⟩
abbrev main_v81 : Ref sig .tc := ⟨.hbm, 114, rfl⟩
abbrev main_c_4 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_5 : Ref sig .tc := ⟨.hbm, 119, rfl⟩
abbrev main_call1_v0 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_cst_6 : Ref sig .tc := ⟨.hbm, 178, rfl⟩
abbrev main_v142 : Ref sig .tc := ⟨.hbm, 179, rfl⟩
abbrev main_v143 : Ref sig .tc := ⟨.hbm, 180, rfl⟩
abbrev main_cst_7 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_cst_8 : Ref sig .tc := ⟨.hbm, 186, rfl⟩
abbrev main_v148 : Ref sig .tc := ⟨.hbm, 187, rfl⟩
abbrev main_v149 : Ref sig .tc := ⟨.hbm, 188, rfl⟩
abbrev main_cst_9 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_cst_10 : Ref sig .tc := ⟨.hbm, 193, rfl⟩
abbrev main_v153 : Ref sig .tc := ⟨.hbm, 194, rfl⟩
abbrev main_v154 : Ref sig .tc := ⟨.hbm, 195, rfl⟩
abbrev main_cst_11 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_cst_12 : Ref sig .tc := ⟨.hbm, 201, rfl⟩
abbrev main_v159 : Ref sig .tc := ⟨.hbm, 202, rfl⟩
abbrev main_v160 : Ref sig .tc := ⟨.hbm, 203, rfl⟩
abbrev main_cst_13 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_cst_14 : Ref sig .tc := ⟨.hbm, 218, rfl⟩
abbrev main_v174 : Ref sig .tc := ⟨.hbm, 219, rfl⟩
abbrev main_v175 : Ref sig .tc := ⟨.hbm, 220, rfl⟩
abbrev main_cst_15 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_cst_16 : Ref sig .tc := ⟨.hbm, 227, rfl⟩
abbrev main_v181 : Ref sig .tc := ⟨.hbm, 228, rfl⟩
abbrev main_v182 : Ref sig .tc := ⟨.hbm, 229, rfl⟩
abbrev main_cst_17 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_cst_18 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_cst_19 : Ref sig .tc := ⟨.hbm, 258, rfl⟩
abbrev main_v209 : Ref sig .tc := ⟨.hbm, 259, rfl⟩
abbrev main_v210 : Ref sig .tc := ⟨.hbm, 260, rfl⟩
abbrev main_cst_20 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_cst_21 : Ref sig .tc := ⟨.hbm, 267, rfl⟩
abbrev main_v216 : Ref sig .tc := ⟨.hbm, 268, rfl⟩
abbrev main_v217 : Ref sig .tc := ⟨.hbm, 269, rfl⟩
abbrev main_cst_22 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_cst_23 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_cst_24 : Ref sig .tc := ⟨.hbm, 292, rfl⟩
abbrev main_v238 : Ref sig .tc := ⟨.hbm, 293, rfl⟩
abbrev main_v239 : Ref sig .tc := ⟨.hbm, 294, rfl⟩
abbrev main_cst_25 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_cst_26 : Ref sig .tc := ⟨.hbm, 299, rfl⟩
abbrev main_v243 : Ref sig .tc := ⟨.hbm, 300, rfl⟩
abbrev main_v244 : Ref sig .tc := ⟨.hbm, 301, rfl⟩
abbrev main_cst_27 : Ref sig .tc := ⟨.hbm, 302, rfl⟩
abbrev main_v245 : Ref sig .tc := ⟨.hbm, 303, rfl⟩
abbrev main_v246 : Ref sig .tc := ⟨.hbm, 304, rfl⟩
abbrev main_cst_28 : Ref sig .tc := ⟨.hbm, 305, rfl⟩
abbrev main_v247 : Ref sig .tc := ⟨.hbm, 306, rfl⟩
abbrev main_v248 : Ref sig .tc := ⟨.hbm, 307, rfl⟩
abbrev main_cst_29 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_cst_30 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_cst_31 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_cst_32 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_cst_33 : Ref sig .tc := ⟨.hbm, 331, rfl⟩
abbrev main_v268 : Ref sig .tc := ⟨.hbm, 332, rfl⟩
abbrev main_v269 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_v274 : Ref sig .tc := ⟨.hbm, 338, rfl⟩
abbrev main_cst_34 : Ref sig .tc := ⟨.hbm, 339, rfl⟩
abbrev main_v275 : Ref sig .tc := ⟨.hbm, 340, rfl⟩
abbrev main_v276 : Ref sig .tc := ⟨.hbm, 341, rfl⟩
abbrev main_cst_35 : Ref sig .tc := ⟨.hbm, 342, rfl⟩
abbrev main_v277 : Ref sig .tc := ⟨.hbm, 343, rfl⟩
abbrev main_v278 : Ref sig .tc := ⟨.hbm, 344, rfl⟩
abbrev main_v279 : Ref sig .tc := ⟨.hbm, 345, rfl⟩
abbrev main_v280 : Ref sig .tc := ⟨.hbm, 346, rfl⟩
abbrev main_cst_36 : Ref sig .tc := ⟨.hbm, 347, rfl⟩
abbrev main_v281 : Ref sig .tc := ⟨.hbm, 348, rfl⟩
abbrev main_v282 : Ref sig .tc := ⟨.hbm, 349, rfl⟩
abbrev main_v283 : Ref sig .tc := ⟨.hbm, 350, rfl⟩
abbrev main_v284 : Ref sig .tc := ⟨.hbm, 351, rfl⟩
abbrev main_v285 : Ref sig .tc := ⟨.hbm, 352, rfl⟩
abbrev main_v286 : Ref sig .tc := ⟨.hbm, 353, rfl⟩
abbrev main_v287 : Ref sig .tc := ⟨.hbm, 354, rfl⟩
abbrev main_v288 : Ref sig .tc := ⟨.hbm, 355, rfl⟩
abbrev main_v289 : Ref sig .tc := ⟨.hbm, 356, rfl⟩
abbrev main_v290 : Ref sig .tc := ⟨.hbm, 357, rfl⟩
abbrev main_v291 : Ref sig .tc := ⟨.hbm, 358, rfl⟩
abbrev main_v292 : Ref sig .tc := ⟨.hbm, 359, rfl⟩
abbrev main_v293 : Ref sig .tc := ⟨.hbm, 360, rfl⟩
abbrev main_v294 : Ref sig .tc := ⟨.hbm, 361, rfl⟩
abbrev main_v295 : Ref sig .tc := ⟨.hbm, 362, rfl⟩
abbrev main_cst_37 : Ref sig .tc := ⟨.hbm, 363, rfl⟩
abbrev main_v296 : Ref sig .tc := ⟨.hbm, 364, rfl⟩
abbrev main_cst_38 : Ref sig .tc := ⟨.hbm, 365, rfl⟩
abbrev main_v297 : Ref sig .tc := ⟨.hbm, 366, rfl⟩
abbrev main_v298 : Ref sig .tc := ⟨.hbm, 367, rfl⟩
abbrev main_v299 : Ref sig .tc := ⟨.hbm, 368, rfl⟩
abbrev main_values : Ref sig .tc := ⟨.hbm, 369, rfl⟩
abbrev main_indices : Ref sig .tc := ⟨.hbm, 370, rfl⟩
abbrev main_v300 : Ref sig .tc := ⟨.hbm, 371, rfl⟩
abbrev main_v301 : Ref sig .tc := ⟨.hbm, 372, rfl⟩
abbrev main_v302 : Ref sig .tc := ⟨.hbm, 373, rfl⟩
abbrev main_v303 : Ref sig .tc := ⟨.hbm, 374, rfl⟩
abbrev main_v304 : Ref sig .tc := ⟨.hbm, 375, rfl⟩
abbrev main_call3_cst : Ref sig .tc := ⟨.hbm, 376, rfl⟩
abbrev main_call3_v0 : Ref sig .tc := ⟨.hbm, 377, rfl⟩
abbrev main_v305 : Ref sig .tc := ⟨.hbm, 378, rfl⟩
abbrev main_v306 : Ref sig .tc := ⟨.hbm, 379, rfl⟩
abbrev main_v307 : Ref sig .tc := ⟨.hbm, 380, rfl⟩
abbrev main_v308 : Ref sig .tc := ⟨.hbm, 381, rfl⟩
abbrev main_v309 : Ref sig .tc := ⟨.hbm, 382, rfl⟩
abbrev main_v310 : Ref sig .tc := ⟨.hbm, 383, rfl⟩
abbrev main_v311 : Ref sig .tc := ⟨.hbm, 384, rfl⟩
abbrev main_v312 : Ref sig .tc := ⟨.hbm, 385, rfl⟩
abbrev main_cst_39 : Ref sig .tc := ⟨.hbm, 386, rfl⟩
abbrev main_v313 : Ref sig .tc := ⟨.hbm, 387, rfl⟩
abbrev main_v314 : Ref sig .tc := ⟨.hbm, 388, rfl⟩
abbrev main_cst_40 : Ref sig .tc := ⟨.hbm, 389, rfl⟩
abbrev main_v315 : Ref sig .tc := ⟨.hbm, 390, rfl⟩
abbrev main_v316 : Ref sig .tc := ⟨.hbm, 391, rfl⟩
abbrev main_v317 : Ref sig .tc := ⟨.hbm, 392, rfl⟩
abbrev main_v318 : Ref sig .tc := ⟨.hbm, 393, rfl⟩
abbrev main_v319 : Ref sig .tc := ⟨.hbm, 394, rfl⟩
abbrev main_v320 : Ref sig .tc := ⟨.hbm, 395, rfl⟩
abbrev main_v321 : Ref sig .tc := ⟨.hbm, 396, rfl⟩
abbrev main_v322 : Ref sig .tc := ⟨.hbm, 397, rfl⟩

abbrev nD : Nat := 1
abbrev τ : Topo := Topo.v7x

variable {F : FTy → Type} [FloatOps F]
-- ==== Proof.Base.lean ====
/- Real arrays seen as arrays of extended reals, the constants of the program as real numbers, and the arithmetic
   of the extended reals on real numbers. -/
module

public import Idealize.ShloMosaic.Lib.Pointwise

@[expose] public section

noncomputable section

namespace Cert.Val

open Idealize.ShloMosaic
open scoped BigOperators

/-- A real vector as an array of extended reals. -/
def up1 {a : ℕ} (f : Fin a → ℝ) : FVec Ideal ⟨1, ![a]⟩ .f32 := fun i => ((f (i 0) : ℝ) : EReal)
/-- A real matrix as an array of extended reals. -/
def up2 {a b : ℕ} (f : Fin a → Fin b → ℝ) : FVec Ideal ⟨2, ![a, b]⟩ .f32 := fun i => ((f (i 0) (i 1) : ℝ) : EReal)
/-- A real array of three axes as an array of extended reals. -/
def up3 {a b c : ℕ} (f : Fin a → Fin b → Fin c → ℝ) : FVec Ideal ⟨3, ![a, b, c]⟩ .f32 :=
  fun i => ((f (i 0) (i 1) (i 2) : ℝ) : EReal)
/-- A real array of four axes as an array of extended reals. -/
def up4 {a b c d : ℕ} (f : Fin a → Fin b → Fin c → Fin d → ℝ) : FVec Ideal ⟨4, ![a, b, c, d]⟩ .f32 :=
  fun i => ((f (i 0) (i 1) (i 2) (i 3) : ℝ) : EReal)

/-- `up1` at an index. -/
@[simp] theorem up1_ix {a : ℕ} (f : Fin a → ℝ) (i : Fin a) : up1 f (ix1 i) = ((f i : ℝ) : EReal) := rfl
/-- `up2` at an index. -/
@[simp] theorem up2_ix {a b : ℕ} (f : Fin a → Fin b → ℝ) (i : Fin a) (j : Fin b) : up2 f (ix2 i j) = ((f i j : ℝ) : EReal) := rfl
/-- `up3` at an index. -/
@[simp] theorem up3_ix {a b c : ℕ} (f : Fin a → Fin b → Fin c → ℝ) (i : Fin a) (j : Fin b) (k : Fin c) :
    up3 f (ix3 i j k) = ((f i j k : ℝ) : EReal) := rfl
/-- `up4` at an index. -/
@[simp] theorem up4_ix {a b c d : ℕ} (f : Fin a → Fin b → Fin c → Fin d → ℝ) (i : Fin a) (j : Fin b) (k : Fin c) (l : Fin d) :
    up4 f (ix4 i j k l) = ((f i j k l : ℝ) : EReal) := rfl

/-- A vector equals `up1 f` when it does at every index. -/
theorem eq_up1 {a : ℕ} (v : FVec Ideal ⟨1, ![a]⟩ .f32) (f : Fin a → ℝ) (h : ∀ i, v (ix1 i) = ((f i : ℝ) : EReal)) : v = up1 f := by
  funext i; rw [eq_ix1 i]; exact h _
/-- A matrix equals `up2 f` when it does at every index. -/
theorem eq_up2 {a b : ℕ} (v : FVec Ideal ⟨2, ![a, b]⟩ .f32) (f : Fin a → Fin b → ℝ)
    (h : ∀ i j, v (ix2 i j) = ((f i j : ℝ) : EReal)) : v = up2 f := by
  funext i; rw [eq_ix2 i]; exact h _ _
/-- An array of three axes equals `up3 f` when it does at every index. -/
theorem eq_up3 {a b c : ℕ} (v : FVec Ideal ⟨3, ![a, b, c]⟩ .f32) (f : Fin a → Fin b → Fin c → ℝ)
    (h : ∀ i j k, v (ix3 i j k) = ((f i j k : ℝ) : EReal)) : v = up3 f := by
  funext i; rw [eq_ix3 i]; exact h _ _ _
/-- An array of four axes equals `up4 f` when it does at every index. -/
theorem eq_up4 {a b c d : ℕ} (v : FVec Ideal ⟨4, ![a, b, c, d]⟩ .f32) (f : Fin a → Fin b → Fin c → Fin d → ℝ)
    (h : ∀ i j k l, v (ix4 i j k l) = ((f i j k l : ℝ) : EReal)) : v = up4 f := by
  funext i; rw [eq_ix4 i]; exact h _ _ _ _

/-- A sum of real numbers, each seen as an extended real, is the real sum. -/
theorem coe_sum {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A quotient of real numbers by a number other than zero. -/
theorem div_coe (x y : ℝ) (hy : y ≠ 0) : Ideal.div (x : EReal) (y : EReal) = ((x / y : ℝ) : EReal) := by
  rw [Ideal.div_coe hy, ← EReal.coe_mul]; congr 1; ring

/-- The reciprocal square root of a positive number. -/
theorem rsqrt_coe (r : ℝ) (hr : 0 < r) : Ideal.rsqrt (r : EReal) = (((Real.sqrt r)⁻¹ : ℝ) : EReal) := by
  rw [Ideal.rsqrt_coe, if_neg (not_lt.2 hr.le), if_neg hr.ne']

/-- The absolute value of a real number. -/
theorem abs_coe (x : ℝ) : max (x : EReal) (-(x : EReal)) = ((|x| : ℝ) : EReal) := by
  rw [← EReal.coe_neg, ← EReal.coe_strictMono.monotone.map_max]; rfl

/-- The real number a 32-bit pattern denotes (zero for the patterns of no real number). -/
def K (b : BitVec 32) : ℝ := (Ideal.ofBits .f32 b).toReal

/-- A pattern whose exponent is not all ones denotes a real number. -/
theorem ofBits_eq (b : BitVec 32) (h : (b.extractLsb' 23 8).toNat ≠ 255) : Ideal.ofBits .f32 b = ((K b : ℝ) : EReal) := by
  unfold K Ideal.ofBits Ideal.ieee
  simp only [show (2 ^ 8 - 1 : ℕ) = 255 from rfl, if_neg h]
  split <;> rw [EReal.toReal_coe]

/-- The value of a pattern with an exponent neither zero nor all ones. -/
theorem K_eq (b : BitVec 32) (h : (b.extractLsb' 23 8).toNat ≠ 255) (h0 : (b.extractLsb' 23 8).toNat ≠ 0) :
    K b = (if (b.extractLsb' 31 1 == 1#1) then -1 else 1) * ((2 ^ 23 + (b.extractLsb' 0 23).toNat : ℕ) : ℝ)
      * (2 : ℝ) ^ (((b.extractLsb' 23 8).toNat : ℤ) - 127 - 23) := by
  unfold K Ideal.ofBits Ideal.ieee
  simp only [show (2 ^ 8 - 1 : ℕ) = 255 from rfl, if_neg h, if_neg h0, EReal.toReal_coe]
  norm_num

/-- The pattern of one. -/
theorem K_one : K 0x3F800000#32 = 1 := by
  rw [K_eq _ (by decide) (by decide)]
  rw [show (0x3F800000#32).extractLsb' 31 1 = 0#1 by decide, show ((0x3F800000#32).extractLsb' 0 23).toNat = 0 by decide,
    show ((0x3F800000#32).extractLsb' 23 8).toNat = 127 by decide]; norm_num
/-- The pattern of one half. -/
theorem K_half : K 0x3F000000#32 = 1 / 2 := by
  rw [K_eq _ (by decide) (by decide)]
  rw [show (0x3F000000#32).extractLsb' 31 1 = 0#1 by decide, show ((0x3F000000#32).extractLsb' 0 23).toNat = 0 by decide,
    show ((0x3F000000#32).extractLsb' 23 8).toNat = 126 by decide]; norm_num
/-- The pattern of two. -/
theorem K_two : K 0x40000000#32 = 2 := by
  rw [K_eq _ (by decide) (by decide)]
  rw [show (0x40000000#32).extractLsb' 31 1 = 0#1 by decide, show ((0x40000000#32).extractLsb' 0 23).toNat = 0 by decide,
    show ((0x40000000#32).extractLsb' 23 8).toNat = 128 by decide]; norm_num
/-- The pattern of ninety-six, the number of channels. -/
theorem K_96 : K 0x42C00000#32 = 96 := by
  rw [K_eq _ (by decide) (by decide)]
  rw [show (0x42C00000#32).extractLsb' 31 1 = 0#1 by decide, show ((0x42C00000#32).extractLsb' 0 23).toNat = 4194304 by decide,
    show ((0x42C00000#32).extractLsb' 23 8).toNat = 133 by decide]; norm_num
/-- The pattern of minus one. -/
theorem K_neg_one : K 0xBF800000#32 = -1 := by
  rw [K_eq _ (by decide) (by decide)]
  rw [show (0xBF800000#32).extractLsb' 31 1 = 1#1 by decide, show ((0xBF800000#32).extractLsb' 0 23).toNat = 0 by decide,
    show ((0xBF800000#32).extractLsb' 23 8).toNat = 127 by decide]; norm_num
/-- A pattern with the sign bit clear and a normal exponent is positive. -/
theorem K_pos (b : BitVec 32) (h : (b.extractLsb' 23 8).toNat ≠ 255) (h0 : (b.extractLsb' 23 8).toNat ≠ 0)
    (hs : b.extractLsb' 31 1 = 0#1) : 0 < K b := by
  rw [K_eq b h h0, hs]
  have h1 : (0 : ℝ) < ((2 ^ 23 + (b.extractLsb' 0 23).toNat : ℕ) : ℝ) := by exact_mod_cast (by positivity)
  have h2 : (0 : ℝ) < (2 : ℝ) ^ (((b.extractLsb' 23 8).toNat : ℤ) - 127 - 23) := by positivity
  rw [if_neg (by decide), one_mul]
  exact mul_pos h1 h2
/-- Setting the sign bit negates the number. -/
theorem K_neg (b b' : BitVec 32) (h : (b.extractLsb' 23 8).toNat ≠ 255) (h0 : (b.extractLsb' 23 8).toNat ≠ 0)
    (hs : b.extractLsb' 31 1 = 0#1) (hs' : b'.extractLsb' 31 1 = 1#1) (he : b'.extractLsb' 23 8 = b.extractLsb' 23 8)
    (hf : b'.extractLsb' 0 23 = b.extractLsb' 0 23) : K b' = -K b := by
  rw [K_eq b h h0, K_eq b' (by rw [he]; exact h) (by rw [he]; exact h0), hs, hs', he, hf, if_pos (by decide), if_neg (by decide)]
  ring

end Cert.Val
-- ==== Proof.Spec.lean ====
/- The problem's mathematics over the real numbers, on curried real arrays. -/
module

public import proofs.«01_k».proof.Proof.Base

@[expose] public section

noncomputable section

namespace Cert.Spec

open Cert.Val
open scoped BigOperators

/-- The arguments of the program as real arrays. -/
structure Args where
  (x1 x2 : Fin 4 → Fin 96 → Fin 128 → Fin 128 → ℝ)
  (w1 : Fin 96 → Fin 96 → Fin 3 → Fin 3 → ℝ) (lm1 : Fin 96 → Fin 96 → ℝ) (th1 : Fin 1 → ℝ)
  (w2 : Fin 96 → Fin 96 → Fin 3 → Fin 3 → ℝ) (lm2 : Fin 96 → Fin 96 → ℝ) (th2 : Fin 1 → ℝ)
  (g1 b1 : Fin 96 → ℝ) (qw : Fin 288 → Fin 96 → ℝ) (qb : Fin 288 → ℝ) (pw : Fin 96 → Fin 96 → ℝ) (pb : Fin 96 → ℝ)
  (g2 b2 : Fin 96 → ℝ) (m1 : Fin 384 → Fin 96 → ℝ) (mb1 : Fin 384 → ℝ) (m2 : Fin 96 → Fin 384 → ℝ) (mb2 : Fin 96 → ℝ)
  (f1 : Fin 24 → Fin 96 → ℝ) (fb1 : Fin 24 → ℝ) (f2 : Fin 1 → Fin 24 → ℝ) (fb2 : Fin 1 → ℝ)
  (dh dw : Fin 128 → Fin 128 → ℝ)

/-- The effective weight of the local-difference convolution: the centre tap reduced by `theta · lm · (sum of the taps)`
    of itself. -/
def weff (w : Fin 96 → Fin 96 → Fin 3 → Fin 3 → ℝ) (lm : Fin 96 → Fin 96 → ℝ) (th : Fin 1 → ℝ)
    (o c : Fin 96) (dy dx : Fin 3) : ℝ :=
  if dy = 1 ∧ dx = 1 then w o c dy dx + -(th 0 * lm o c * ∑ i, ∑ j, w o c i j) * w o c 1 1 else w o c dy dx

/-- The image extended by zeros, read at row `i - 1` and column `j - 1`. -/
def pad (x : Fin 128 → Fin 128 → ℝ) (i j : ℕ) : ℝ :=
  if h : (1 ≤ i ∧ i ≤ 128) ∧ 1 ≤ j ∧ j ≤ 128 then x ⟨i - 1, by omega⟩ ⟨j - 1, by omega⟩ else 0

/-- A three by three convolution with zero padding: nine taps, each summed over the channels. -/
def conv (x : Fin 96 → Fin 128 → Fin 128 → ℝ) (W : Fin 96 → Fin 96 → Fin 3 → Fin 3 → ℝ) (o : Fin 96) (h v : Fin 128) : ℝ :=
  ∑ dy : Fin 3, ∑ dx : Fin 3, ∑ c : Fin 96, W o c dy dx * pad (x c) (h + dy) (v + dx)

/-- The mean over the channels. -/
def mean (t : Fin 96 → ℝ) : ℝ := (∑ k, t k) / 96

/-- The variance over the channels. -/
def var (t : Fin 96 → ℝ) : ℝ := (∑ k, (t k - mean t) * (t k - mean t)) / 96

/-- The variance is not negative. -/
theorem var_nonneg (t : Fin 96 → ℝ) : 0 ≤ var t :=
  div_nonneg (Finset.sum_nonneg fun _ _ => mul_self_nonneg _) (by norm_num)

/-- The small constant under the square root. -/
def eps : ℝ := K 0x3727C5AC#32

/-- It is positive. -/
theorem eps_pos : 0 < eps := K_pos _ (by decide) (by decide) (by decide)

/-- The variance with the small constant is positive. -/
theorem var_eps_pos (t : Fin 96 → ℝ) : 0 < var t + eps := add_pos_of_nonneg_of_pos (var_nonneg t) eps_pos

/-- Layer normalization over the channels. -/
def ln (t g b : Fin 96 → ℝ) (c : Fin 96) : ℝ := (t c - mean t) * (Real.sqrt (var t + eps))⁻¹ * g c + b c

/-- Abramowitz and Stegun's formula 7.1.26 for the error function, at a number that is not negative. -/
def erfPos (a : ℝ) : ℝ :=
  1 - 1 / (1 + K 0x3EA7BA05#32 * a) * (K 0x3E827906#32 + 1 / (1 + K 0x3EA7BA05#32 * a) * (-K 0x3E91A98E#32
    + 1 / (1 + K 0x3EA7BA05#32 * a) * (K 0x3FB5F0E3#32 + 1 / (1 + K 0x3EA7BA05#32 * a) * (-K 0x3FBA00E3#32
    + 1 / (1 + K 0x3EA7BA05#32 * a) * K 0x3F87DC22#32)))) * Real.exp (-a * a)

/-- The gelu with that error function. -/
def gelu (x : ℝ) : ℝ :=
  1 / 2 * x * (1 + if x < 0 then -erfPos (|x| * K 0x3F3504F3#32) else erfPos (|x| * K 0x3F3504F3#32))

variable (A : Args)

/-- The fused features: both convolutions and twice the sum of the images. -/
def feat (b : Fin 4) (h v : Fin 128) (o : Fin 96) : ℝ :=
  conv (A.x1 b) (weff A.w1 A.lm1 A.th1) o h v + conv (A.x2 b) (weff A.w2 A.lm2 A.th2) o h v + 2 * (A.x1 b o h v + A.x2 b o h v)

/-- The projection's matrix times the value matrix. -/
def wc (o c : Fin 96) : ℝ := ∑ k : Fin 96, A.pw o k * A.qw ⟨192 + k, by omega⟩ c
/-- The projection of the value bias, with the projection's own bias. -/
def bc (o : Fin 96) : ℝ := (∑ k : Fin 96, A.pw o k * A.qb ⟨192 + k, by omega⟩) + A.pb o

/-- The attention step, at one pixel's channels: the normalized features through the value and projection matrices. -/
def attn (W : Fin 96 → Fin 96 → ℝ) (B g b t : Fin 96 → ℝ) (o : Fin 96) : ℝ :=
  t o + (∑ k, W o k * ln t g b k) + B o

/-- The hidden layer of the MLP at one pixel's channels. -/
def hid (W : Fin 384 → Fin 96 → ℝ) (B : Fin 384 → ℝ) (g b t : Fin 96 → ℝ) (j : Fin 384) : ℝ := (∑ k, W j k * ln t g b k) + B j

/-- The MLP step at one pixel's channels. -/
def mlp (W1 : Fin 384 → Fin 96 → ℝ) (B1 : Fin 384 → ℝ) (W2 : Fin 96 → Fin 384 → ℝ) (B2 g b t : Fin 96 → ℝ) (o : Fin 96) : ℝ :=
  t o + (∑ j, W2 o j * gelu (hid W1 B1 g b t j)) + B2 o

/-- The fused image after the attention step and the MLP step. -/
def cross (b : Fin 4) (o : Fin 96) (h v : Fin 128) : ℝ :=
  mlp A.m1 A.mb1 A.m2 A.mb2 A.g2 A.b2 (attn (wc A) (bc A) A.g1 A.b1 (feat A b h v)) o

/-- The cosine transform of one channel. -/
def dct (b : Fin 4) (c : Fin 96) (i j : Fin 128) : ℝ := ∑ v, (∑ h, A.dh i h * cross A b c h v) * A.dw j v

/-- The mean over the channels of the transform's absolute value. -/
def energy (b : Fin 4) (i j : Fin 128) : ℝ := (∑ c, |dct A b c i j|) / 96

end Cert.Spec
-- ==== Proof.Scatter.lean ====
/- The scatters of both programs: one window put into, or added to, an array at a constant place. -/
module

public import proofs.«01_k».proof.Proof.Base
public import Idealize.ShloMosaic.Lib.Routing.OpsPair
public import Idealize.ShloMosaic.Lib.Pointwise

@[expose] public section
noncomputable section
namespace Cert.Val
open Idealize.ShloMosaic

/-- A fold whose step acts at one member of a list without repetitions acts once. -/
theorem foldl_hit {α β : Type} (f : α → β → α) {n : ℕ} (p : Fin n → Prop) [DecidablePred p] (v : Fin n → β) (k : Fin n)
    (h : ∀ i, p i ↔ i = k) (L : List (Fin n)) (hL : L.Nodup) (a : α) :
    L.foldl (fun a i => if p i then f a (v i) else a) a = if k ∈ L then f a (v k) else a := by
  induction L generalizing a with
  | nil => rfl
  | cons i L ih =>
    rw [List.foldl_cons, ih (List.nodup_cons.mp hL).2]
    by_cases hi : i = k
    · subst hi
      rw [if_neg (List.nodup_cons.mp hL).1, if_pos ((h i).mpr rfl), if_pos List.mem_cons_self]
    · rw [if_neg fun q => hi ((h i).mp q)]
      exact if_congr ⟨List.mem_cons_of_mem _, fun q => (List.mem_cons.mp q).resolve_left fun e => hi e.symm⟩ rfl rfl

/-- A scatter at an element where exactly one update lands. -/
theorem scatter_hit {α : Type} {s si u : Shape} {w : ℕ} (d : ScatterDims s si u) (f : α → α → α) (x : s.Idx → α) (idx : IVec si w)
    (upd : u.Idx → α) (i : s.Idx) (k : u.Idx) (h : ∀ k', d.resultIdx? k' idx = some i ↔ k' = k) :
    Host.scatter d f x idx upd i = f (x i) (upd k) := by
  rw [Routing.scatter_at, foldl_hit f (fun n => d.resultIdx? (u.rowMajor.symm n) idx = some i) (fun n => upd (u.rowMajor.symm n))
    (u.rowMajor k) (fun n => (h _).trans u.rowMajor.symm_apply_eq) _ (List.nodup_finRange _), if_pos (List.mem_finRange _),
    Equiv.symm_apply_apply]

/-- A scatter at an element where no update lands. -/
theorem scatter_miss {α : Type} {s si u : Shape} {w : ℕ} (d : ScatterDims s si u) (f : α → α → α) (x : s.Idx → α) (idx : IVec si w)
    (upd : u.Idx → α) (i : s.Idx) (h : ∀ k', d.resultIdx? k' idx ≠ some i) :
    Host.scatter d f x idx upd i = x i := by
  rw [Routing.scatter_at]
  generalize x i = a
  induction List.finRange u.numel with
  | nil => rfl
  | cons n L ih => rw [List.foldl_cons, if_neg (h _), ih]

/-- The convolution weights' scatter: the update is added at the centre tap. -/
theorem scatter_centre (wf) (x : (⟨4, ![96, 96, 3, 3]⟩ : Shape).Idx → EReal) (idx : IVec ⟨1, ![2]⟩ 32) (hi : ∀ k, idx k = 1#32)
    (upd : (⟨2, ![96, 96]⟩ : Shape).Idx → EReal) (f : EReal → EReal → EReal) (o c : Fin 96) (i j : Fin 3) :
    Host.scatter (⟨[0, 1], [2, 3], [2, 3], 0, wf⟩ : ScatterDims ⟨4, ![96, 96, 3, 3]⟩ ⟨1, ![2]⟩ ⟨2, ![96, 96]⟩) f x idx upd (ix4 o c i j)
      = if i = 1 ∧ j = 1 then f (x (ix4 o c i j)) (upd (ix2 o c)) else x (ix4 o c i j) := by
  generalize hd : (⟨[0, 1], [2, 3], [2, 3], 0, wf⟩ : ScatterDims ⟨4, ![96, 96, 3, 3]⟩ ⟨1, ![2]⟩ ⟨2, ![96, 96]⟩) = d
  have key : ∀ k' : (⟨2, ![96, 96]⟩ : Shape).Idx, d.resultIdx? k' idx = some (ix4 o c i j)
      ↔ (k' 0 = o ∧ k' 1 = c) ∧ i = 1 ∧ j = 1 := by
    intro k'
    have s0 : d.start k' idx 0 = 0 := by subst hd; rfl
    have s1 : d.start k' idx 1 = 0 := by subst hd; rfl
    have s2 : d.start k' idx 2 = 1 := by subst hd; exact congrArg BitVec.toInt (hi _)
    have s3 : d.start k' idx 3 = 1 := by subst hd; exact congrArg BitVec.toInt (hi _)
    have w0 : d.window k' 0 = (k' 0).val := by subst hd; rfl
    have w1 : d.window k' 1 = (k' 1).val := by subst hd; rfl
    have w2 : d.window k' 2 = 0 := by subst hd; rfl
    have w3 : d.window k' 3 = 0 := by subst hd; rfl
    rw [Routing.resultIdx?_eq_some]
    constructor
    · intro h
      have h0 := h 0
      have h1 := h 1
      have h2 := h 2
      have h3 := h 3
      rw [s0, w0] at h0
      rw [s1, w1] at h1
      rw [s2, w2] at h2
      rw [s3, w3] at h3
      change (0 : ℤ) + ((k' 0).val : ℤ) = (o.val : ℤ) at h0
      change (0 : ℤ) + ((k' 1).val : ℤ) = (c.val : ℤ) at h1
      change (1 : ℤ) + ((0 : ℕ) : ℤ) = (i.val : ℤ) at h2
      change (1 : ℤ) + ((0 : ℕ) : ℤ) = (j.val : ℤ) at h3
      exact ⟨⟨Fin.ext (by omega), Fin.ext (by omega)⟩, Fin.ext (by omega), Fin.ext (by omega)⟩
    · rintro ⟨⟨e0, e1⟩, rfl, rfl⟩ a
      fin_cases a
      · exact (congrArg₂ (fun (p : ℤ) (q : ℕ) => p + (q : ℤ)) s0 w0).trans ((zero_add _).trans (congrArg (fun q : Fin 96 => (q.val : ℤ)) e0))
      · exact (congrArg₂ (fun (p : ℤ) (q : ℕ) => p + (q : ℤ)) s1 w1).trans ((zero_add _).trans (congrArg (fun q : Fin 96 => (q.val : ℤ)) e1))
      · exact (congrArg₂ (fun (p : ℤ) (q : ℕ) => p + (q : ℤ)) s2 w2)
      · exact (congrArg₂ (fun (p : ℤ) (q : ℕ) => p + (q : ℤ)) s3 w3)
  by_cases h : i = 1 ∧ j = 1
  · rw [if_pos h]
    refine scatter_hit d f x idx upd _ _ fun k' => (key k').trans ⟨fun q => ?_, ?_⟩
    · rw [eq_ix2 k']
      exact congrArg₂ ix2 q.1.1 q.1.2
    · rintro rfl
      exact ⟨⟨rfl, rfl⟩, h⟩
  · rw [if_neg h]
    exact scatter_miss d f x idx upd _ fun k' q => h ((key k').mp q).2

/-- The first layer's scatter: the 96 by 24 matrix in the corner. -/
theorem scatter_corner (wf) (x : (⟨2, ![128, 128]⟩ : Shape).Idx → EReal) (idx : IVec ⟨1, ![2]⟩ 32) (hi : ∀ k, idx k = 0#32)
    (upd : (⟨2, ![96, 24]⟩ : Shape).Idx → EReal) (i j : Fin 128) :
    Host.scatter (⟨[0, 1], [], [0, 1], 0, wf⟩ : ScatterDims ⟨2, ![128, 128]⟩ ⟨1, ![2]⟩ ⟨2, ![96, 24]⟩) (fun _ b => b) x idx upd (ix2 i j)
      = if h : i.val < 96 ∧ j.val < 24 then upd (ix2 ⟨i.val, h.1⟩ ⟨j.val, h.2⟩) else x (ix2 i j) := by
  generalize hd : (⟨[0, 1], [], [0, 1], 0, wf⟩ : ScatterDims ⟨2, ![128, 128]⟩ ⟨1, ![2]⟩ ⟨2, ![96, 24]⟩) = d
  have key : ∀ k' : (⟨2, ![96, 24]⟩ : Shape).Idx, d.resultIdx? k' idx = some (ix2 i j) ↔ (k' 0).val = i.val ∧ (k' 1).val = j.val := by
    intro k'
    have s0 : d.start k' idx 0 = 0 := by subst hd; exact congrArg BitVec.toInt (hi _)
    have s1 : d.start k' idx 1 = 0 := by subst hd; exact congrArg BitVec.toInt (hi _)
    have w0 : d.window k' 0 = (k' 0).val := by subst hd; rfl
    have w1 : d.window k' 1 = (k' 1).val := by subst hd; rfl
    refine (Routing.resultIdx?_ix2 d k' idx i j).trans ?_
    rw [s0, s1, w0, w1]
    omega
  by_cases h : i.val < 96 ∧ j.val < 24
  · rw [dif_pos h]
    refine scatter_hit d _ x idx upd _ _ fun k' => (key k').trans ⟨fun q => ?_, ?_⟩
    · rw [eq_ix2 k']
      exact congrArg₂ ix2 (Fin.ext q.1) (Fin.ext q.2)
    · rintro rfl
      exact ⟨rfl, rfl⟩
  · rw [dif_neg h]
    refine scatter_miss d _ x idx upd _ fun k' q => h ?_
    have := (key k').mp q
    have a0 : (k' 0).val < 96 := (k' 0).isLt
    have a1 : (k' 1).val < 24 := (k' 1).isLt
    omega

/-- The scatter of a row of 24 words at the start of a row of 128. -/
theorem scatter_row (wf) (x : (⟨2, ![1, 128]⟩ : Shape).Idx → EReal) (idx : IVec ⟨1, ![2]⟩ 32) (hi : ∀ k, idx k = 0#32)
    (upd : (⟨1, ![24]⟩ : Shape).Idx → EReal) (i : Fin 1) (j : Fin 128) :
    Host.scatter (⟨[0], [0], [0, 1], 0, wf⟩ : ScatterDims ⟨2, ![1, 128]⟩ ⟨1, ![2]⟩ ⟨1, ![24]⟩) (fun _ b => b) x idx upd (ix2 i j)
      = if h : j.val < 24 then upd (ix1 ⟨j.val, h⟩) else x (ix2 i j) := by
  generalize hd : (⟨[0], [0], [0, 1], 0, wf⟩ : ScatterDims ⟨2, ![1, 128]⟩ ⟨1, ![2]⟩ ⟨1, ![24]⟩) = d
  have key : ∀ k' : (⟨1, ![24]⟩ : Shape).Idx, d.resultIdx? k' idx = some (ix2 i j) ↔ (k' 0).val = j.val := by
    intro k'
    have s0 : d.start k' idx 0 = 0 := by subst hd; exact congrArg BitVec.toInt (hi _)
    have s1 : d.start k' idx 1 = 0 := by subst hd; exact congrArg BitVec.toInt (hi _)
    have w0 : d.window k' 0 = 0 := by subst hd; rfl
    have w1 : d.window k' 1 = (k' 0).val := by subst hd; rfl
    refine (Routing.resultIdx?_ix2 d k' idx i j).trans ?_
    rw [s0, s1, w0, w1]
    have := i.isLt
    omega
  by_cases h : j.val < 24
  · rw [dif_pos h]
    refine scatter_hit d _ x idx upd _ _ fun k' => (key k').trans ⟨fun q => ?_, ?_⟩
    · rw [eq_ix1 k']
      exact congrArg ix1 (Fin.ext q)
    · rintro rfl
      rfl
  · rw [dif_neg h]
    refine scatter_miss d _ x idx upd _ fun k' q => h ?_
    have := (key k').mp q
    have a0 : (k' 0).val < 24 := (k' 0).isLt
    omega

end Cert.Val
-- ==== Proof.HostArgs.lean ====
/- The arguments of the kernel's program as real arrays, and its first stretch of host operations at an index. -/
module

public import proofs.«01_k».proof.Proof.Spec
public import proofs.«01_k».proof.Proof.Scatter
public import proofs.«01_k».proof.Proof.Gen.KernelIdeal.Frame

@[expose] public section
set_option maxRecDepth 16384
noncomputable section
namespace Cert.Val
open Idealize.ShloMosaic Idealize.ShloMosaic.TcCoe Idealize.ShloMosaic.Tactic Idealize.SL Cert.KernelIdeal Cert.KernelIdeal.Gen
open scoped BigOperators

/-- The launch memory holds the real arrays `A` at the arguments. -/
structure Holds (m : (ℓ : Loc nD τ sig) → Buf (Elt Ideal) ℓ) (c : Dev nD) (A : Spec.Args) : Prop where
  a0 : m ((c : Thread nD τ).loc main_arg0) = up4 A.x1
  a1 : m ((c : Thread nD τ).loc main_arg1) = up4 A.x2
  a2 : m ((c : Thread nD τ).loc main_arg2) = up4 A.w1
  a3 : m ((c : Thread nD τ).loc main_arg3) = up2 A.lm1
  a4 : m ((c : Thread nD τ).loc main_arg4) = up1 A.th1
  a5 : m ((c : Thread nD τ).loc main_arg5) = up4 A.w2
  a6 : m ((c : Thread nD τ).loc main_arg6) = up2 A.lm2
  a7 : m ((c : Thread nD τ).loc main_arg7) = up1 A.th2
  a8 : m ((c : Thread nD τ).loc main_arg8) = up1 A.g1
  a9 : m ((c : Thread nD τ).loc main_arg9) = up1 A.b1
  a10 : m ((c : Thread nD τ).loc main_arg10) = up2 A.qw
  a11 : m ((c : Thread nD τ).loc main_arg11) = up1 A.qb
  a12 : m ((c : Thread nD τ).loc main_arg12) = up2 A.pw
  a13 : m ((c : Thread nD τ).loc main_arg13) = up1 A.pb
  a14 : m ((c : Thread nD τ).loc main_arg14) = up1 A.g2
  a15 : m ((c : Thread nD τ).loc main_arg15) = up1 A.b2
  a16 : m ((c : Thread nD τ).loc main_arg16) = up2 A.m1
  a17 : m ((c : Thread nD τ).loc main_arg17) = up1 A.mb1
  a18 : m ((c : Thread nD τ).loc main_arg18) = up2 A.m2
  a19 : m ((c : Thread nD τ).loc main_arg19) = up1 A.mb2
  a20 : m ((c : Thread nD τ).loc main_arg20) = up2 A.f1
  a21 : m ((c : Thread nD τ).loc main_arg21) = up1 A.fb1
  a22 : m ((c : Thread nD τ).loc main_arg22) = up2 A.f2
  a23 : m ((c : Thread nD τ).loc main_arg23) = up1 A.fb2
  a24 : m ((c : Thread nD τ).loc main_arg24) = up2 A.dh
  a25 : m ((c : Thread nD τ).loc main_arg25) = up2 A.dw

end Cert.Val
-- ==== Proof.Finite.lean ====
/- The precondition: every argument is an array of real numbers. -/
module

public import proofs.«01_k».proof.Defs
public import proofs.«01_k».proof.Proof.HostArgs
public import proofs.«01_k».proof.Proof.Gen.Pre_finite

@[expose] public section
set_option maxRecDepth 16384
noncomputable section
namespace Cert.Val
open Idealize.ShloMosaic Idealize.ShloMosaic.TcCoe Idealize.SL

/-- The test of the precondition at one argument. -/
def finiteTest {s : Shape} (hb : (⟨0, ![]⟩ : Shape).BroadcastsInDim s ![]) (x : FVec Ideal s .f32) : IVec s 1 :=
  cmpf .olt (Host.absf x) (broadcastInDim s ![] hb (constant ⟨0, ![]⟩ .f32 0x7F800000#32))

/-- The pattern of infinity. -/
theorem ofBits_inf : Ideal.ofBits .f32 0x7F800000#32 = ⊤ := by
  simp [Ideal.ofBits, Ideal.ieee]

/-- An argument that passes the test has a real number at every index. -/
theorem real_of_test {s : Shape} (hb : (⟨0, ![]⟩ : Shape).BroadcastsInDim s ![]) (x : FVec Ideal s .f32)
    (h : finiteTest hb x = fun _ => 1#1) (i : s.Idx) : x i = (((x i : EReal).toReal : ℝ) : EReal) := by
  have h1 : Ideal.cmp .olt (max (x i : EReal) (-(x i : EReal))) (Ideal.ofBits .f32 0x7F800000#32) = 1#1 := congrFun h i
  rw [ofBits_inf] at h1
  have h2 : max (x i : EReal) (-(x i : EReal)) < ⊤ := by
    by_contra hn
    simp [Ideal.cmp, hn] at h1
  refine (EReal.coe_toReal (fun ht => ?_) (fun hb => ?_)).symm
  · exact absurd (lt_of_le_of_lt (le_max_left _ _) h2) (by rw [ht]; exact lt_irrefl _)
  · exact absurd (lt_of_le_of_lt (le_max_right _ _) h2) (by rw [hb]; exact lt_irrefl _)

/-- A vector that passes the test is real. -/
theorem real1 {a : ℕ} (hb : (⟨0, ![]⟩ : Shape).BroadcastsInDim ⟨1, ![a]⟩ ![]) (x : FVec Ideal ⟨1, ![a]⟩ .f32)
    (h : finiteTest hb x = fun _ => 1#1) : x = up1 fun i => (x (ix1 i) : EReal).toReal :=
  eq_up1 _ _ fun _ => real_of_test hb x h _
/-- A matrix that passes the test is real. -/
theorem real2 {a b : ℕ} (hb : (⟨0, ![]⟩ : Shape).BroadcastsInDim ⟨2, ![a, b]⟩ ![]) (x : FVec Ideal ⟨2, ![a, b]⟩ .f32)
    (h : finiteTest hb x = fun _ => 1#1) : x = up2 fun i j => (x (ix2 i j) : EReal).toReal :=
  eq_up2 _ _ fun _ _ => real_of_test hb x h _
/-- An array of four axes that passes the test is real. -/
theorem real4 {a b c d : ℕ} (hb : (⟨0, ![]⟩ : Shape).BroadcastsInDim ⟨4, ![a, b, c, d]⟩ ![]) (x : FVec Ideal ⟨4, ![a, b, c, d]⟩ .f32)
    (h : finiteTest hb x = fun _ => 1#1) : x = up4 fun i j k l => (x (ix4 i j k l) : EReal).toReal :=
  eq_up4 _ _ fun _ _ _ _ => real_of_test hb x h _

/-- Under the precondition the launch memory holds real arrays at the arguments. -/
theorem holds_of_finite (m : (ℓ : Loc Cert.KernelIdeal.nD Cert.KernelIdeal.τ Cert.KernelIdeal.sig) → Buf (Elt Ideal) ℓ)
    (h : Cert.Pre_KernelIdeal_finite m) (c : Dev Cert.KernelIdeal.nD) : ∃ A : Spec.Args, Holds m c A := by
  obtain ⟨h0, h1, h2, h3, h4, h5, h6, h7, h8, h9, h10, h11, h12, h13, h14, h15, h16, h17, h18, h19, h20, h21, h22, h23, h24, h25⟩ := h c
  exact ⟨⟨_, _, _, _, _, _, _, _, _, _, _, _, _, _, _, _, _, _, _, _, _, _, _, _, _, _⟩,
    ⟨real4 (by decide) _ h0, real4 (by decide) _ h1, real4 (by decide) _ h2, real2 (by decide) _ h3, real1 (by decide) _ h4,
     real4 (by decide) _ h5, real2 (by decide) _ h6, real1 (by decide) _ h7, real1 (by decide) _ h8, real1 (by decide) _ h9,
     real2 (by decide) _ h10, real1 (by decide) _ h11, real2 (by decide) _ h12, real1 (by decide) _ h13, real1 (by decide) _ h14,
     real1 (by decide) _ h15, real2 (by decide) _ h16, real1 (by decide) _ h17, real2 (by decide) _ h18, real1 (by decide) _ h19,
     real2 (by decide) _ h20, real1 (by decide) _ h21, real2 (by decide) _ h22, real1 (by decide) _ h23, real2 (by decide) _ h24,
     real2 (by decide) _ h25⟩⟩

end Cert.Val
-- ==== Proof.Host0.lean ====
/- The first stretch of host operations: the tiled vectors and the projection. -/
module

public import proofs.«01_k».proof.Proof.HostArgs

@[expose] public section
set_option maxRecDepth 16384
noncomputable section
namespace Cert.Val
open Idealize.ShloMosaic Idealize.ShloMosaic.TcCoe Idealize.ShloMosaic.Tactic Idealize.SL Cert.KernelIdeal Cert.KernelIdeal.Gen
open scoped BigOperators

/-- A vector broadcast to a column, then along 2048 lanes. -/
theorem tile96 (v : Fin 96 → ℝ) :
    broadcastInDim S96x2048 ![0, 1] bcast_S96x1_S96x2048_0_1 (broadcastInDim S96x1 ![0] bcast_S96_S96x1_0 (up1 v : FVec Ideal S96 .f32))
      = (up2 (fun k (_ : Fin 2048) => v k) : FVec Ideal S96x2048 .f32) := by
  refine eq_up2 _ _ fun i j => ?_
  pointwise
  rfl

/-- The same for a vector of 384. -/
theorem tile384 (v : Fin 384 → ℝ) :
    broadcastInDim S384x2048 ![0, 1] bcast_S384x1_S384x2048_0_1 (broadcastInDim S384x1 ![0] bcast_S384_S384x1_0 (up1 v : FVec Ideal S384 .f32))
      = (up2 (fun k (_ : Fin 2048) => v k) : FVec Ideal S384x2048 .f32) := by
  refine eq_up2 _ _ fun i j => ?_
  pointwise
  rfl

/-- The projection's matrix times the value matrix, on the host. -/
theorem host_wc (A : Spec.Args) :
    Host.dotGeneral dot_S96x96_S96x96_S96x96_1_0_0_1_n_n none (up2 A.pw : FVec Ideal S96x96 .f32)
        (extractStridedSlice S96x96 ![192, 0] (up2 A.qw : FVec Ideal S288x96 .f32) slices_S288x96_S96x96_192_0)
      = (up2 (Spec.wc A) : FVec Ideal S96x96 .f32) := by
  refine eq_up2 _ _ fun i j => ?_
  pointwise
  simp only [Spec.wc, ← coe_sum, EReal.coe_mul, up2_ix]

/-- The projection of the value bias with its own bias, on the host. -/
theorem host_bc (A : Spec.Args) :
    addf (Host.dotGeneral dot_S96x96_S96_S96_1_0_0_n_n_n none (up2 A.pw : FVec Ideal S96x96 .f32)
        (extractStridedSlice S96 ![192] (up1 A.qb : FVec Ideal S288 .f32) slices_S288_S96_192)) (up1 A.pb : FVec Ideal S96 .f32)
      = (up1 (Spec.bc A) : FVec Ideal S96 .f32) := by
  refine eq_up1 _ _ fun i => ?_
  pointwise
  simp only [Spec.bc, ← coe_sum, EReal.coe_mul, EReal.coe_add, up2_ix, up1_ix]

/-- The effective weights, on the host. -/
theorem host_weff (w : Fin 96 → Fin 96 → Fin 3 → Fin 3 → ℝ) (lm : Fin 96 → Fin 96 → ℝ) (th : Fin 1 → ℝ) :
    (Host.scatter scatter_S96x96x3x3_S2_S96x96_01_23_23_0 FloatOps.addf (up4 w : FVec Ideal S96x96x3x3 .f32)
        (concatenate S2 0 [⟨S1, broadcastInDim S1 ![] bcast_S_S1 (constantI S_ 32 1#32)⟩, ⟨S1, broadcastInDim S1 ![] bcast_S_S1 (constantI S_ 32 1#32)⟩] concatenates_S1_S1_S2_d0 : IVec S2 32)
        (mulf (Host.negf (mulf (mulf (broadcastInDim S96x96 ![] bcast_S_S96x96 (shapeCast S_ (up1 th : FVec Ideal S1 .f32) shapeCasts_S1_S_ : FVec Ideal S_ .f32)) (up2 lm : FVec Ideal S96x96 .f32))
          (Host.reduceAdd (up4 w : FVec Ideal S96x96x3x3 .f32) (constant S_ .f32 0x00000000#32) reducesTo_S96x96x3x3_S96x96_d2_3 h_S_)))
          (shapeCast S96x96 (extractStridedSlice S96x96x1x1 ![0, 0, 1, 1] (up4 w : FVec Ideal S96x96x3x3 .f32) slices_S96x96x3x3_S96x96x1x1_0_0_1_1) shapeCasts_S96x96x1x1_S96x96)) : FVec Ideal S96x96x3x3 .f32)
      = (up4 (Spec.weff w lm th) : FVec Ideal S96x96x3x3 .f32) := by
  refine eq_up4 _ _ fun o k i j => ?_
  unfold scatter_S96x96x3x3_S2_S96x96_01_23_23_0
  refine (scatter_centre _ _ _ (fun k => ?_) _ _ o k i j).trans ?_
  · generalize hk : k = kk
    rw [eq_ix1 kk]
    pointwise
    exact ite_self _
  · pointwise
    simp only [Spec.weff, up4_ix, up2_ix, up1_ix, coe_sum]
    split <;> norm_cast

/-- The padded rows of one half of an image, in a line: two rows before the half and two after it. -/
def slab (x : Fin 96 → Fin 128 → Fin 128 → ℝ) (s : Fin 2) (c : Fin 96) (n : Fin 8704) : ℝ :=
  if h : 2 ≤ 64 * s.val + n.val / 128 ∧ 64 * s.val + n.val / 128 < 130 then
    x c ⟨64 * s.val + n.val / 128 - 2, by omega⟩ ⟨n.val % 128, by omega⟩
  else 0

/-- The padded image, on the host. -/
theorem host_pad (x : Fin 4 → Fin 96 → Fin 128 → Fin 128 → ℝ) (b : Fin 4) (c : Fin 96) (i : Fin 132) (j : Fin 128) :
    pad S4x96x132x128 ![0, 0, 2, 0] ![0, 0, 2, 0] ![0, 0, 0, 0] (up4 x : FVec Ideal S4x96x128x128 .f32)
      (sitofp .f32 (constantI S_ 32 0#32 : IVec S_ 32) : FVec Ideal S_ .f32) pads_S4x96x128x128_S4x96x132x128_000_000_220_000 h_S_ (ix4 b c i j)
      = (((if h : 2 ≤ i.val ∧ i.val < 130 then x b c ⟨i.val - 2, by omega⟩ j else 0 : ℝ)) : EReal) := by
  pointwise
  rw [show (FloatOps.sitofp (F := Ideal) FTy.f32 (0#32) : EReal) = 0 from ?_]
  · split
    · rw [dif_pos (by omega)]; rfl
    · rw [dif_neg (by omega)]; rfl
  · norm_num [FloatOps.sitofp]

/-- The slabs of an image, on the host. -/
theorem host_slab (x : Fin 4 → Fin 96 → Fin 128 → Fin 128 → ℝ) :
    shapeCast S4x2x96x8704 (concatenate S4x2x96x68x128 1
      [⟨S4x1x96x68x128, broadcastInDim S4x1x96x68x128 ![0, 2, 3, 4] bcast_S4x96x68x128_S4x1x96x68x128_0_2_3_4 (extractStridedSlice S4x96x68x128 ![0, 0, 0, 0]
          (pad S4x96x132x128 ![0, 0, 2, 0] ![0, 0, 2, 0] ![0, 0, 0, 0] (up4 x : FVec Ideal S4x96x128x128 .f32)
            (sitofp .f32 (constantI S_ 32 0#32 : IVec S_ 32) : FVec Ideal S_ .f32) pads_S4x96x128x128_S4x96x132x128_000_000_220_000 h_S_) slices_S4x96x132x128_S4x96x68x128_0_0_0_0)⟩,
       ⟨S4x1x96x68x128, broadcastInDim S4x1x96x68x128 ![0, 2, 3, 4] bcast_S4x96x68x128_S4x1x96x68x128_0_2_3_4 (extractStridedSlice S4x96x68x128 ![0, 0, 64, 0]
          (pad S4x96x132x128 ![0, 0, 2, 0] ![0, 0, 2, 0] ![0, 0, 0, 0] (up4 x : FVec Ideal S4x96x128x128 .f32)
            (sitofp .f32 (constantI S_ 32 0#32 : IVec S_ 32) : FVec Ideal S_ .f32) pads_S4x96x128x128_S4x96x132x128_000_000_220_000 h_S_) slices_S4x96x132x128_S4x96x68x128_0_0_64_0)⟩]
      concatenates_S4x1x96x68x128_S4x1x96x68x128_S4x2x96x68x128_d1) shapeCasts_S4x2x96x68x128_S4x2x96x8704
      = (up4 (fun b => fun s c n => slab (x b) s c n) : FVec Ideal S4x2x96x8704 .f32) := by
  generalize hp : pad S4x96x132x128 ![0, 0, 2, 0] ![0, 0, 2, 0] ![0, 0, 0, 0] (up4 x : FVec Ideal S4x96x128x128 .f32)
    (sitofp .f32 (constantI S_ 32 0#32 : IVec S_ 32) : FVec Ideal S_ .f32) pads_S4x96x128x128_S4x96x132x128_000_000_220_000 h_S_ = P
  refine eq_up4 _ _ fun b s c n => ?_
  pointwise
  simp only [← hp, host_pad]
  unfold slab
  by_cases hs : s.val < 1
  · have e : s.val = 0 := by omega
    rw [dif_pos hs]
    simp only [e, Nat.mul_zero, Nat.zero_add]
  · have e : s.val = 1 := by omega
    rw [dif_neg hs]
    simp only [e, Nat.mul_one]

/-- The convolutions' weights stacked: a tap's column down the rows, the image and the tap's row along the columns. -/
def wcat (w1 w2 : Fin 96 → Fin 96 → Fin 3 → Fin 3 → ℝ) (o : Fin 288) (k : Fin 576) : ℝ :=
  (if k.val < 288 then w1 else w2) ⟨o.val % 96, by omega⟩ ⟨k.val % 96, by omega⟩ ⟨k.val / 96 % 3, by omega⟩ ⟨o.val / 96, by omega⟩

variable (m : (ℓ : Loc nD τ sig) → Buf (Elt Ideal) ℓ) (ρ : Dev nD → PrngReg) (c : Dev nD) (A : Spec.Args)

/-- The product of the projection's matrix and the value matrix, after the first stretch. -/
theorem W1_v68 (h : Holds m c A) : W1 m ρ c (Proc.devRef .tc main_v68) = up2 (Spec.wc A) := by
  refine Eq.trans ?_ (host_wc A)
  rw [← h.a12, ← h.a10]
  after_results

/-- The projected value bias at every place of a chunk, after the first stretch. -/
theorem W1_v72 (h : Holds m c A) : W1 m ρ c (Proc.devRef .tc main_v72) = up2 (fun k (_ : Fin 2048) => Spec.bc A k) := by
  refine Eq.trans ?_ (tile96 _)
  rw [← host_bc A, ← h.a12, ← h.a11, ← h.a13]
  after_results

/-- The first normalization's gain at every place of a chunk, after the first stretch. -/
theorem W1_v74 (h : Holds m c A) : W1 m ρ c (Proc.devRef .tc main_v74) = up2 (fun k (_ : Fin 2048) => A.g1 k) := by
  rw [← tile96, ← h.a8]
  after_results

/-- The other vectors, tiled. -/
theorem W1_tiles (h : Holds m c A) : W1 m ρ c (Proc.devRef .tc main_v76) = up2 (fun k (_ : Fin 2048) => A.b1 k)
    ∧ W1 m ρ c (Proc.devRef .tc main_v78) = up2 (fun k (_ : Fin 2048) => A.g2 k)
    ∧ W1 m ρ c (Proc.devRef .tc main_v80) = up2 (fun k (_ : Fin 2048) => A.b2 k)
    ∧ W1 m ρ c (Proc.devRef .tc main_v82) = up2 (fun k (_ : Fin 2048) => A.mb1 k)
    ∧ W1 m ρ c (Proc.devRef .tc main_v84) = up2 (fun k (_ : Fin 2048) => A.mb2 k) := by
  rw [← tile96, ← tile96, ← tile96, ← tile384, ← tile96, ← h.a9, ← h.a14, ← h.a15, ← h.a17, ← h.a19]
  refine ⟨?_, ?_, ?_, ?_, ?_⟩
  · after_results
  · after_results
  · after_results
  · after_results
  · after_results

/-- Six matrices side by side. -/
def beside (u0 u1 u2 u3 u4 u5 : FVec Ideal S96x96 .f32) : FVec Ideal S96x576 .f32 :=
  concatenate S96x576 1 [⟨S96x96, u0⟩, ⟨S96x96, u1⟩, ⟨S96x96, u2⟩, ⟨S96x96, u3⟩, ⟨S96x96, u4⟩, ⟨S96x96, u5⟩]
    concatenates_S96x96_S96x96_S96x96_S96x96_S96x96_S96x96_S96x576_d1

/-- Three blocks one below the other. -/
def below (u0 u1 u2 : FVec Ideal S96x576 .f32) : FVec Ideal S288x576 .f32 :=
  concatenate S288x576 0 [⟨S96x576, u0⟩, ⟨S96x576, u1⟩, ⟨S96x576, u2⟩] concatenates_S96x576_S96x576_S96x576_S288x576_d0

/-- One tap of the weights as a matrix. -/
def tap (w : Fin 96 → Fin 96 → Fin 3 → Fin 3 → ℝ) (i j : Fin 3) : FVec Ideal S96x96 .f32 := up2 fun o c => w o c i j

/-- The operation that joins them, read at its result. -/
theorem join38 (F : Valuation τ sig (Elt Ideal)) (h1 h2) :
    (StableHlo.nary ![main_v27, main_v29, main_v31, main_v33, main_v35, main_v37] main_v38 (fun u => (concatenate S96x576 1 [⟨S96x96, (u 0 : (⟨S96x96, .f32⟩ : BufTy).Contents (Elt Ideal))⟩, ⟨S96x96, (u 1 : (⟨S96x96, .f32⟩ : BufTy).Contents (Elt Ideal))⟩, ⟨S96x96, (u 2 : (⟨S96x96, .f32⟩ : BufTy).Contents (Elt Ideal))⟩, ⟨S96x96, (u 3 : (⟨S96x96, .f32⟩ : BufTy).Contents (Elt Ideal))⟩, ⟨S96x96, (u 4 : (⟨S96x96, .f32⟩ : BufTy).Contents (Elt Ideal))⟩, ⟨S96x96, (u 5 : (⟨S96x96, .f32⟩ : BufTy).Contents (Elt Ideal))⟩] concatenates_S96x96_S96x96_S96x96_S96x96_S96x96_S96x96_S96x576_d1 : (⟨S96x576, .f32⟩ : BufTy).Contents (Elt Ideal))) h1 h2 : HloOp τ sig (Elt Ideal)).result F (no_index (Proc.devRef .tc main_v38))
      = beside (F (Proc.devRef .tc main_v27)) (F (Proc.devRef .tc main_v29)) (F (Proc.devRef .tc main_v31)) (F (Proc.devRef .tc main_v33)) (F (Proc.devRef .tc main_v35)) (F (Proc.devRef .tc main_v37)) := by
  rw [StableHlo.nary_result]
  rfl

/-- The operation that joins them, read at its result. -/
theorem join51 (F : Valuation τ sig (Elt Ideal)) (h1 h2) :
    (StableHlo.nary ![main_v40, main_v42, main_v44, main_v46, main_v48, main_v50] main_v51 (fun u => (concatenate S96x576 1 [⟨S96x96, (u 0 : (⟨S96x96, .f32⟩ : BufTy).Contents (Elt Ideal))⟩, ⟨S96x96, (u 1 : (⟨S96x96, .f32⟩ : BufTy).Contents (Elt Ideal))⟩, ⟨S96x96, (u 2 : (⟨S96x96, .f32⟩ : BufTy).Contents (Elt Ideal))⟩, ⟨S96x96, (u 3 : (⟨S96x96, .f32⟩ : BufTy).Contents (Elt Ideal))⟩, ⟨S96x96, (u 4 : (⟨S96x96, .f32⟩ : BufTy).Contents (Elt Ideal))⟩, ⟨S96x96, (u 5 : (⟨S96x96, .f32⟩ : BufTy).Contents (Elt Ideal))⟩] concatenates_S96x96_S96x96_S96x96_S96x96_S96x96_S96x96_S96x576_d1 : (⟨S96x576, .f32⟩ : BufTy).Contents (Elt Ideal))) h1 h2 : HloOp τ sig (Elt Ideal)).result F (no_index (Proc.devRef .tc main_v51))
      = beside (F (Proc.devRef .tc main_v40)) (F (Proc.devRef .tc main_v42)) (F (Proc.devRef .tc main_v44)) (F (Proc.devRef .tc main_v46)) (F (Proc.devRef .tc main_v48)) (F (Proc.devRef .tc main_v50)) := by
  rw [StableHlo.nary_result]
  rfl

/-- The operation that joins them, read at its result. -/
theorem join64 (F : Valuation τ sig (Elt Ideal)) (h1 h2) :
    (StableHlo.nary ![main_v53, main_v55, main_v57, main_v59, main_v61, main_v63] main_v64 (fun u => (concatenate S96x576 1 [⟨S96x96, (u 0 : (⟨S96x96, .f32⟩ : BufTy).Contents (Elt Ideal))⟩, ⟨S96x96, (u 1 : (⟨S96x96, .f32⟩ : BufTy).Contents (Elt Ideal))⟩, ⟨S96x96, (u 2 : (⟨S96x96, .f32⟩ : BufTy).Contents (Elt Ideal))⟩, ⟨S96x96, (u 3 : (⟨S96x96, .f32⟩ : BufTy).Contents (Elt Ideal))⟩, ⟨S96x96, (u 4 : (⟨S96x96, .f32⟩ : BufTy).Contents (Elt Ideal))⟩, ⟨S96x96, (u 5 : (⟨S96x96, .f32⟩ : BufTy).Contents (Elt Ideal))⟩] concatenates_S96x96_S96x96_S96x96_S96x96_S96x96_S96x96_S96x576_d1 : (⟨S96x576, .f32⟩ : BufTy).Contents (Elt Ideal))) h1 h2 : HloOp τ sig (Elt Ideal)).result F (no_index (Proc.devRef .tc main_v64))
      = beside (F (Proc.devRef .tc main_v53)) (F (Proc.devRef .tc main_v55)) (F (Proc.devRef .tc main_v57)) (F (Proc.devRef .tc main_v59)) (F (Proc.devRef .tc main_v61)) (F (Proc.devRef .tc main_v63)) := by
  rw [StableHlo.nary_result]
  rfl

/-- The operation that joins the three blocks, read at its result. -/
theorem join65 (F : Valuation τ sig (Elt Ideal)) (h1 h2) :
    (StableHlo.nary ![main_v38, main_v51, main_v64] main_v65 (fun u => (concatenate S288x576 0 [⟨S96x576, (u 0 : (⟨S96x576, .f32⟩ : BufTy).Contents (Elt Ideal))⟩, ⟨S96x576, (u 1 : (⟨S96x576, .f32⟩ : BufTy).Contents (Elt Ideal))⟩, ⟨S96x576, (u 2 : (⟨S96x576, .f32⟩ : BufTy).Contents (Elt Ideal))⟩] concatenates_S96x576_S96x576_S96x576_S288x576_d0 : (⟨S288x576, .f32⟩ : BufTy).Contents (Elt Ideal))) h1 h2 : HloOp τ sig (Elt Ideal)).result F (no_index (Proc.devRef .tc main_v65))
      = below (F (Proc.devRef .tc main_v38)) (F (Proc.devRef .tc main_v51)) (F (Proc.devRef .tc main_v64)) := by
  rw [StableHlo.nary_result]
  rfl

/-- The stacked weights at a column of the first image. -/
theorem wcat_lo (w1 w2 : Fin 96 → Fin 96 → Fin 3 → Fin 3 → ℝ) (o : Fin 288) (k : Fin 576) (o' c : Fin 96) (dy dx : Fin 3)
    (ho : o.val = dx.val * 96 + o'.val) (hk : k.val = dy.val * 96 + c.val) : wcat w1 w2 o k = w1 o' c dy dx := by
  unfold wcat
  rw [if_pos (by omega)]
  exact congr (congr (congr (congrArg w1 (Fin.ext (by show o.val % 96 = _; omega))) (Fin.ext (by show k.val % 96 = _; omega)))
    (Fin.ext (by show k.val / 96 % 3 = _; omega))) (Fin.ext (by show o.val / 96 = _; omega))

/-- The stacked weights at a column of the second image. -/
theorem wcat_hi (w1 w2 : Fin 96 → Fin 96 → Fin 3 → Fin 3 → ℝ) (o : Fin 288) (k : Fin 576) (o' c : Fin 96) (dy dx : Fin 3)
    (ho : o.val = dx.val * 96 + o'.val) (hk : k.val = (3 + dy.val) * 96 + c.val) : wcat w1 w2 o k = w2 o' c dy dx := by
  unfold wcat
  rw [if_neg (by omega)]
  exact congr (congr (congr (congrArg w2 (Fin.ext (by show o.val % 96 = _; omega))) (Fin.ext (by show k.val % 96 = _; omega)))
    (Fin.ext (by show k.val / 96 % 3 = _; omega))) (Fin.ext (by show o.val / 96 = _; omega))

/-- A tap cut out of the weights. -/
theorem host_tap (w : Fin 96 → Fin 96 → Fin 3 → Fin 3 → ℝ) (i j : Fin 3) (off : Fin 4 → ℕ) (ho : off = ![0, 0, i.val, j.val]) (h) :
    shapeCast S96x96 (extractStridedSlice S96x96x1x1 off (up4 w : FVec Ideal S96x96x3x3 .f32) h) shapeCasts_S96x96x1x1_S96x96
      = tap w i j := by
  subst ho
  refine eq_up2 _ _ fun o c => ?_
  pointwise
  rfl

/-- The taps joined are the stacked weights. -/
theorem host_wcat (w1 w2 : Fin 96 → Fin 96 → Fin 3 → Fin 3 → ℝ) :
    below (beside (tap w1 0 0) (tap w1 1 0) (tap w1 2 0) (tap w2 0 0) (tap w2 1 0) (tap w2 2 0))
      (beside (tap w1 0 1) (tap w1 1 1) (tap w1 2 1) (tap w2 0 1) (tap w2 1 1) (tap w2 2 1))
      (beside (tap w1 0 2) (tap w1 1 2) (tap w1 2 2) (tap w2 0 2) (tap w2 1 2) (tap w2 2 2)) = up2 (wcat w1 w2) := by
  refine eq_up2 _ _ fun o k => ?_
  unfold below beside
  pointwise
  split_ifs <;>
    first
    | exact congrArg _ (wcat_lo w1 w2 _ _ _ _ _ _ (by first | omega | (simp; done) | (simp; omega)) (by first | omega | (simp; done) | (simp; omega))).symm
    | exact congrArg _ (wcat_hi w1 w2 _ _ _ _ _ _ (by first | omega | (simp; done) | (simp; omega)) (by first | omega | (simp; done) | (simp; omega))).symm

set_option maxHeartbeats 2000000 in
/-- The stack read after the operations that form it, from the effective weights. -/
theorem stack_read (G : Valuation τ sig (Elt Ideal)) (w1 w2 : Fin 96 → Fin 96 → Fin 3 → Fin 3 → ℝ) (e1 : G (Proc.devRef .tc main_v12) = up4 w1)
    (e2 : G (Proc.devRef .tc main_v25) = up4 w2) :
    StableHlo.after (hostOps0.drop 32) G (Proc.devRef .tc main_v65) = up2 (wcat w1 w2) := by
  rw [← host_wcat]
  simp only [List.drop_succ_cons, List.drop_zero]
  simp (disch := decide) only [↓ StableHlo.readResult, StableHlo.after_cons, StableHlo.after_nil, join38, join51, join64, join65, StableHlo.unary_result',
    StableHlo.reshape_result', StableHlo.unary_result_ne', StableHlo.binary_result_ne',
    StableHlo.ternary_result_ne', StableHlo.reshape_result_ne', StableHlo.nullary_result_ne', StableHlo.nary_result_ne']
  rw [e1, e2]
  congr 2 <;> (refine host_tap _ _ _ _ ?_ _; rfl)

/-- The matrix of all taps of both convolutions, after the first stretch. -/
theorem W1_v65 (h : Holds m c A) : W1 m ρ c (Proc.devRef .tc main_v65) = up2 (wcat (Spec.weff A.w1 A.lm1 A.th1) (Spec.weff A.w2 A.lm2 A.th2)) := by
  refine stack_read (StableHlo.after (hostOps0.take 32) (W0 m ρ c)) _ _ ?_ ?_
  · rw [← host_weff, ← h.a2, ← h.a3, ← h.a4]
    simp only [List.take_succ_cons, List.take_zero]
    after_results
    rfl
  · rw [← host_weff, ← h.a5, ← h.a6, ← h.a7]
    simp only [List.take_succ_cons, List.take_zero]
    after_results
    rfl

end Cert.Val
-- ==== Proof.Host1.lean ====
/- The other stretches of host operations, read between the calls. -/
module

public import proofs.«01_k».proof.Proof.Host0

@[expose] public section
set_option maxRecDepth 16384
noncomputable section
namespace Cert.Val
open Idealize.ShloMosaic Idealize.ShloMosaic.TcCoe Idealize.ShloMosaic.Tactic Idealize.SL Cert.KernelIdeal Cert.KernelIdeal.Gen
open scoped BigOperators

/-- The first image's slabs, read after the operations that form them. -/
theorem slab_read0 (G : Valuation τ sig (Elt Ideal)) (x : Fin 4 → Fin 96 → Fin 128 → Fin 128 → ℝ) (e : G (Proc.devRef .tc main_arg0) = up4 x)
    (ez : G (Proc.devRef .tc main_c_4) = (constantI S_ 32 0#32 : IVec S_ 32)) :
    StableHlo.after hostOps0_2 (StableHlo.after hostOps0_1 G) (Proc.devRef .tc main_v91) = up4 (fun b s c n => slab (x b) s c n) := by
  rw [← host_slab, ← e, ← ez]
  after_results
  rfl

/-- The second image's slabs, read after the operations that form them. -/
theorem slab_read1 (G : Valuation τ sig (Elt Ideal)) (x : Fin 4 → Fin 96 → Fin 128 → Fin 128 → ℝ) (e : G (Proc.devRef .tc main_arg1) = up4 x)
    (ez : G (Proc.devRef .tc main_c_5) = (constantI S_ 32 0#32 : IVec S_ 32)) :
    StableHlo.after hostOps0_4 (StableHlo.after hostOps0_3 G) (Proc.devRef .tc main_v98) = up4 (fun b s c n => slab (x b) s c n) := by
  rw [← host_slab, ← e, ← ez]
  after_results
  rfl

/-- An array in a line along its pixels, as images. -/
theorem image_of_line (f : Fin 4 → Fin 96 → Fin 16384 → ℝ) :
    shapeCast S4x96x128x128 (up3 f : FVec Ideal S4x96x16384 .f32) shapeCasts_S4x96x16384_S4x96x128x128
      = (up4 (fun b o h v => f b o ⟨128 * h.val + v.val, by omega⟩) : FVec Ideal S4x96x128x128 .f32) := by
  refine eq_up4 _ _ fun b o h v => ?_
  pointwise
  refine congrArg (fun q => ((f b o q : ℝ) : EReal)) (Fin.ext ?_)
  simp
  try omega

/-- Images in a line along their pixels. -/
theorem line_of_image (x : Fin 4 → Fin 96 → Fin 128 → Fin 128 → ℝ) :
    shapeCast S4x96x16384 (up4 x : FVec Ideal S4x96x128x128 .f32) shapeCasts_S4x96x128x128_S4x96x16384
      = (up3 (fun b o n => x b o ⟨n.val / 128, by omega⟩ ⟨n.val % 128, by omega⟩) : FVec Ideal S4x96x16384 .f32) := by
  refine eq_up3 _ _ fun b o n => ?_
  pointwise
  rfl

/-- The transposed cosine matrix. -/
theorem host_trans (d : Fin 128 → Fin 128 → ℝ) :
    transpose S128x128 [1, 0] (up2 d : FVec Ideal S128x128 .f32) transposes_S128x128_S128x128_1_0
      = (up2 (fun i j => d j i) : FVec Ideal S128x128 .f32) := by
  refine eq_up2 _ _ fun i j => ?_
  pointwise
  rfl

/-- The cosine matrix over the number of channels. -/
theorem host_over (d : Fin 128 → Fin 128 → ℝ) :
    Host.divf (up2 d : FVec Ideal S128x128 .f32) (broadcastInDim S128x128 ![] bcast_S_S128x128 (constant S_ .f32 0x42C00000#32 : FVec Ideal S_ .f32))
      = (up2 (fun i j => d i j / 96) : FVec Ideal S128x128 .f32) := by
  refine eq_up2 _ _ fun i j => ?_
  pointwise
  show Ideal.div ((d i j : ℝ) : EReal) (Ideal.ofBits .f32 0x42C00000#32) = _
  rw [ofBits_eq _ (by decide), K_96, div_coe _ _ (by norm_num)]

/-- What the second call is given. -/
theorem read1 (G : Valuation τ sig (Elt Ideal)) (f : Fin 4 → Fin 96 → Fin 16384 → ℝ) (dh dw : Fin 128 → Fin 128 → ℝ)
    (e : G (Proc.devRef .tc main_v99) = up3 f) (eh : G (Proc.devRef .tc main_arg24) = up2 dh) (ew : G (Proc.devRef .tc main_arg25) = up2 dw) :
    StableHlo.after hostOps1 G (Proc.devRef .tc main_v100) = up4 (fun b o h v => f b o ⟨128 * h.val + v.val, by omega⟩)
    ∧ StableHlo.after hostOps1 G (Proc.devRef .tc main_v101) = up2 (fun i j => dw j i)
    ∧ StableHlo.after hostOps1 G (Proc.devRef .tc main_v103) = up2 (fun i j => dh i j / 96) := by
  rw [← image_of_line, ← host_trans, ← host_over, ← e, ← eh, ← ew]
  refine ⟨?_, ?_, ?_⟩
  · after_results
    rfl
  · after_results
  · after_results

/-- The pair of zeros that places an update at the corner. -/
theorem zeros_pair (k : S2.Idx) :
    (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) k = 0#32 := by
  generalize hk : k = kk
  rw [eq_ix1 kk]
  pointwise
  exact ite_self _

/-- The first dense layer's weights in the corner of a square of zeros. -/
theorem host_f1 (f : Fin 24 → Fin 96 → ℝ) :
    Host.scatter scatter_S128x128_S2_S96x24_01_n_01_0 (fun _ b => b)
      (broadcastInDim S128x128 ![] bcast_S_S128x128 (constant S_ .f32 0x00000000#32 : FVec Ideal S_ .f32))
      (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32)
      (transpose S96x24 [1, 0] (up2 f : FVec Ideal S24x96 .f32) transposes_S24x96_S96x24_1_0)
      = (up2 (fun i j => if h : i.val < 96 ∧ j.val < 24 then f ⟨j.val, h.2⟩ ⟨i.val, h.1⟩ else 0) : FVec Ideal S128x128 .f32) := by
  refine eq_up2 _ _ fun i j => ?_
  unfold scatter_S128x128_S2_S96x24_01_n_01_0
  refine (scatter_corner _ _ _ zeros_pair _ i j).trans ?_
  split
  · pointwise
    rfl
  · pointwise
    exact EReal.coe_zero.symm

/-- A row of twenty-four at the start of a row of zeros. -/
theorem host_row (f : Fin 24 → ℝ) :
    Host.scatter scatter_S1x128_S2_S24_0_0_01_0 (fun _ b => b)
      (broadcastInDim S1x128 ![] bcast_S_S1x128 (constant S_ .f32 0x00000000#32 : FVec Ideal S_ .f32))
      (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32)
      (up1 f : FVec Ideal S24 .f32)
      = (up2 (fun (_ : Fin 1) j => if h : j.val < 24 then f ⟨j.val, h⟩ else 0) : FVec Ideal S1x128 .f32) := by
  refine eq_up2 _ _ fun i j => ?_
  unfold scatter_S1x128_S2_S24_0_0_01_0
  refine (scatter_row _ _ _ zeros_pair _ i j).trans ?_
  split
  · rfl
  · pointwise
    exact EReal.coe_zero.symm

/-- A row of one axis. -/
theorem host_flat (f : Fin 1 → Fin 24 → ℝ) :
    shapeCast S24 (up2 f : FVec Ideal S1x24 .f32) shapeCasts_S1x24_S24 = (up1 (fun j => f 0 j) : FVec Ideal S24 .f32) := by
  refine eq_up1 _ _ fun i => ?_
  pointwise
  refine congrArg (fun q => ((f 0 q : ℝ) : EReal)) (Fin.ext ?_)
  simp
  try omega

/-- One number broadcast along a row. -/
theorem host_one (f : Fin 1 → ℝ) :
    broadcastInDim S1x128 ![0, 1] bcast_S1x1_S1x128_0_1 (shapeCast S1x1 (up1 f : FVec Ideal S1 .f32) shapeCasts_S1_S1x1)
      = (up2 (fun (_ : Fin 1) (_ : Fin 128) => f 0) : FVec Ideal S1x128 .f32) := by
  refine eq_up2 _ _ fun i j => ?_
  pointwise
  rfl

/-- What the third call is given, beside the energies. -/
theorem read2 (G : Valuation τ sig (Elt Ideal)) (f1 : Fin 24 → Fin 96 → ℝ) (fb1 : Fin 24 → ℝ) (f2 : Fin 1 → Fin 24 → ℝ) (fb2 : Fin 1 → ℝ)
    (e1 : G (Proc.devRef .tc main_arg20) = up2 f1) (e2 : G (Proc.devRef .tc main_arg21) = up1 fb1)
    (e3 : G (Proc.devRef .tc main_arg22) = up2 f2) (e4 : G (Proc.devRef .tc main_arg23) = up1 fb2) :
    StableHlo.after hostOps2 G (Proc.devRef .tc main_v110) = up2 (fun i j => if h : i.val < 96 ∧ j.val < 24 then f1 ⟨j.val, h.2⟩ ⟨i.val, h.1⟩ else 0)
    ∧ StableHlo.after hostOps2 G (Proc.devRef .tc main_v115) = up2 (fun (_ : Fin 1) j => if h : j.val < 24 then fb1 ⟨j.val, h⟩ else 0)
    ∧ StableHlo.after hostOps2 G (Proc.devRef .tc main_v121) = up2 (fun (_ : Fin 1) j => if h : j.val < 24 then f2 0 ⟨j.val, h⟩ else 0)
    ∧ StableHlo.after hostOps2 G (Proc.devRef .tc main_v123) = up2 (fun (_ : Fin 1) (_ : Fin 128) => fb2 0) := by
  rw [← host_f1, ← host_row, ← host_row, ← host_one, ← host_flat, ← e1, ← e2, ← e3, ← e4]
  refine ⟨?_, ?_, ?_, ?_⟩
  · after_results
  · after_results
  · after_results
    rfl
  · after_results
    rfl

/-- One lane of the gate's row. -/
theorem host_gate (f : Fin 4 → ℝ) :
    shapeCast S4 (extractStridedSlice S4x1x1 ![0, 0, 0] (up3 (fun b _ _ => f b) : FVec Ideal S4x1x128 .f32) slices_S4x1x128_S4x1x1_0_0_0) shapeCasts_S4x1x1_S4
      = (up1 f : FVec Ideal S4 .f32) := by
  refine eq_up1 _ _ fun b => ?_
  pointwise
  rfl

/-- What the last call is given, beside the fused image. -/
theorem read3 (G : Valuation τ sig (Elt Ideal)) (f : Fin 4 → ℝ) (x1 x2 : Fin 4 → Fin 96 → Fin 128 → Fin 128 → ℝ)
    (e : G (Proc.devRef .tc main_v124) = (up3 (fun b _ _ => f b) : FVec Ideal S4x1x128 .f32)) (e1 : G (Proc.devRef .tc main_arg0) = up4 x1)
    (e2 : G (Proc.devRef .tc main_arg1) = up4 x2) :
    StableHlo.after hostOps3 G (Proc.devRef .tc main_v126) = up1 f
    ∧ StableHlo.after hostOps3 G (Proc.devRef .tc main_v127) = up3 (fun b o n => x1 b o ⟨n.val / 128, by omega⟩ ⟨n.val % 128, by omega⟩)
    ∧ StableHlo.after hostOps3 G (Proc.devRef .tc main_v128) = up3 (fun b o n => x2 b o ⟨n.val / 128, by omega⟩ ⟨n.val % 128, by omega⟩) := by
  rw [← host_gate, ← line_of_image, ← line_of_image, ← e, ← e1, ← e2]
  refine ⟨?_, ?_, ?_⟩
  · after_results
    rfl
  · after_results
    rfl
  · after_results
    rfl

/-- The results, as images. -/
theorem read4 (G : Valuation τ sig (Elt Ideal)) (f g : Fin 4 → Fin 96 → Fin 16384 → ℝ)
    (e : G (Proc.devRef .tc main_v129_0) = up3 f) (e' : G (Proc.devRef .tc main_v129_1) = up3 g) :
    StableHlo.after hostOps4 G (Proc.devRef .tc main_v130) = up4 (fun b o h v => f b o ⟨128 * h.val + v.val, by omega⟩)
    ∧ StableHlo.after hostOps4 G (Proc.devRef .tc main_v131) = up4 (fun b o h v => g b o ⟨128 * h.val + v.val, by omega⟩) := by
  rw [← image_of_line, ← image_of_line, ← e, ← e']
  refine ⟨?_, ?_⟩
  · after_results
    rfl
  · after_results
    rfl

end Cert.Val
-- ==== Proof.Chunk.lean ====
/- One chunk of the convolution kernel: 2048 pixels, every channel. The body's operations are named in stages, and each
   stage is read as the real mathematics of one pixel's channels. -/
module

public import proofs.«01_k».proof.Proof.Spec
public import proofs.«01_k».proof.Proof.Gen.KernelIdeal.Skeleton
public import Idealize.ShloMosaic.Lib.Pipeline.Value

@[expose] public section

set_option maxRecDepth 16384

noncomputable section

namespace Cert.Val

open Idealize.ShloMosaic Cert.KernelIdeal Cert.KernelIdeal.Gen
open scoped BigOperators

/-- The two convolutions' product of the weights with the gathered rows, before the columns are shifted. -/
def prodV (w : FVec Ideal S288x576 .f32) (x : FVec Ideal S576x2304 .f32) : FVec Ideal S288x2304 .f32 :=
  matmul dot_S288x576_S576x2304_S288x2304_1_0_0_1_n_n none (shapeCast S288x576 w shapeCasts_S288x576_S288x576) x
    (constant S288x2304 .f32 0x00000000#32)

/-- The convolution with twice the sum of the images: three column shifts of the product, the outer two masked. -/
def convV (w : FVec Ideal S288x576 .f32) (x : FVec Ideal S576x2304 .f32) (u v : FVec Ideal S1x1x96x2048 .f32) :
    FVec Ideal S96x2048 .f32 :=
  addf (addf (addf (extractStridedSlice S96x2048 ![96, 128] (prodV w x) slices_S288x2304_o96_128_S96x2048)
      (select (broadcastTo S96x2048 (shapeCast S1x2048 k0_pay3 shapeCasts_S1x2048_S1x2048) broadcasts_S1x2048_S96x2048)
        (extractStridedSlice S96x2048 ![0, 127] (prodV w x) slices_S288x2304_o0_127_S96x2048)
        (broadcast S96x2048 (Scalar.ofBits (F := Ideal) .f32 0x00000000#32))))
      (select (broadcastTo S96x2048 (shapeCast S1x2048 k0_pay4 shapeCasts_S1x2048_S1x2048) broadcasts_S1x2048_S96x2048)
        (extractStridedSlice S96x2048 ![192, 129] (prodV w x) slices_S288x2304_o192_129_S96x2048)
        (broadcast S96x2048 (Scalar.ofBits (F := Ideal) .f32 0x00000000#32))))
    (mulf (broadcast S96x2048 (Scalar.ofBits (F := Ideal) .f32 0x40000000#32))
      (addf (shapeCast S96x2048 u shapeCasts_S1x1x96x2048_S96x2048) (shapeCast S96x2048 v shapeCasts_S1x1x96x2048_S96x2048)))

/-- The mean over the channels, one row. -/
def meanV (t : FVec Ideal S96x2048 .f32) : FVec Ideal S1x2048 .f32 :=
  divf (shapeCast S1x2048 (multiReduction .add [0] S2048 t 0x00000000#32 reduces_S96x2048_S2048 (.inl rfl) rfl) shapeCasts_S2048_S1x2048)
    (broadcast S1x2048 (Scalar.ofBits (F := Ideal) .f32 0x42C00000#32))

/-- The difference from the mean. -/
def devV (t : FVec Ideal S96x2048 .f32) : FVec Ideal S96x2048 .f32 :=
  subf t (broadcastTo S96x2048 (meanV t) broadcasts_S1x2048_S96x2048)

/-- Layer normalization over the channels. -/
def lnV (t g b : FVec Ideal S96x2048 .f32) : FVec Ideal S96x2048 .f32 :=
  addf (mulf (mulf (devV t) (broadcastTo S96x2048 (rsqrt (addf (meanV (mulf (devV t) (devV t)))
      (broadcast S1x2048 (Scalar.ofBits (F := Ideal) .f32 0x3727C5AC#32)))) broadcasts_S1x2048_S96x2048))
    (shapeCast S96x2048 g shapeCasts_S96x2048_S96x2048)) (shapeCast S96x2048 b shapeCasts_S96x2048_S96x2048)

/-- The attention step. -/
def attnV (w : FVec Ideal S96x96 .f32) (c g b t : FVec Ideal S96x2048 .f32) : FVec Ideal S96x2048 .f32 :=
  addf (addf t (matmul dot_S96x96_S96x2048_S96x2048_1_0_0_1_n_n none (shapeCast S96x96 w shapeCasts_S96x96_S96x96) (lnV t g b)
    (constant S96x2048 .f32 0x00000000#32))) (shapeCast S96x2048 c shapeCasts_S96x2048_S96x2048)

/-- The hidden layer of the MLP. -/
def hidV (w : FVec Ideal S384x96 .f32) (c : FVec Ideal S384x2048 .f32) (g b t : FVec Ideal S96x2048 .f32) : FVec Ideal S384x2048 .f32 :=
  addf (matmul dot_S384x96_S96x2048_S384x2048_1_0_0_1_n_n none w (lnV t g b) (constant S384x2048 .f32 0x00000000#32))
    (shapeCast S384x2048 c shapeCasts_S384x2048_S384x2048)

/-- One constant at every element. -/
def cst (b : BitVec 32) : FVec Ideal S384x2048 .f32 := broadcast S384x2048 (Scalar.ofBits (F := Ideal) .f32 b)

/-- The scaled absolute value. -/
def axV (x : FVec Ideal S384x2048 .f32) : FVec Ideal S384x2048 .f32 := mulf (absf x) (cst 0x3F3504F3#32)

/-- The reciprocal the polynomial is taken at. -/
def tV (a : FVec Ideal S384x2048 .f32) : FVec Ideal S384x2048 .f32 :=
  divf (cst 0x3F800000#32) (addf (cst 0x3F800000#32) (mulf (cst 0x3EA7BA05#32) a))

/-- The polynomial in `t`. -/
def polyV (t : FVec Ideal S384x2048 .f32) : FVec Ideal S384x2048 .f32 :=
  mulf t (addf (cst 0x3E827906#32) (mulf t (addf (cst 0xBE91A98E#32) (mulf t (addf (cst 0x3FB5F0E3#32)
    (mulf t (addf (cst 0xBFBA00E3#32) (mulf t (cst 0x3F87DC22#32)))))))))

/-- The error function of a number that is not negative. -/
def erfV (a : FVec Ideal S384x2048 .f32) : FVec Ideal S384x2048 .f32 :=
  subf (cst 0x3F800000#32) (mulf (polyV (tV a)) (exp (mulf (subf (cst 0x00000000#32) a) a)))

/-- The gelu. -/
def geluV (x : FVec Ideal S384x2048 .f32) : FVec Ideal S384x2048 .f32 :=
  mulf (mulf (cst 0x3F000000#32) x) (addf (cst 0x3F800000#32) (select (cmpf .olt x (cst 0x00000000#32))
    (subf (cst 0x00000000#32) (erfV (axV x))) (erfV (axV x))))

/-- The MLP step. -/
def mlpV (w : FVec Ideal S384x96 .f32) (c : FVec Ideal S384x2048 .f32) (w' : FVec Ideal S96x384 .f32) (c' g b t : FVec Ideal S96x2048 .f32) :
    FVec Ideal S96x2048 .f32 :=
  addf (addf t (matmul dot_S96x384_S384x2048_S96x2048_1_0_0_1_n_n none w' (geluV (hidV w c g b t))
    (constant S96x2048 .f32 0x00000000#32))) (shapeCast S96x2048 c' shapeCasts_S96x2048_S96x2048)

/-- What one chunk stores. -/
def chunkV (w : FVec Ideal S288x576 .f32) (x : FVec Ideal S576x2304 .f32) (u v : FVec Ideal S1x1x96x2048 .f32)
    (w3 : FVec Ideal S96x96 .f32) (c4 g5 b6 g7 b8 : FVec Ideal S96x2048 .f32) (w9 : FVec Ideal S384x96 .f32)
    (c10 : FVec Ideal S384x2048 .f32) (w11 : FVec Ideal S96x384 .f32) (c12 : FVec Ideal S96x2048 .f32) : FVec Ideal S1x96x2048 .f32 :=
  shapeCast S1x96x2048 (mlpV w9 c10 w11 c12 g7 b8 (attnV w3 c4 g5 b6 (convV w x u v))) shapeCasts_S96x2048_S1x96x2048

/-- The mask of the columns that have a left neighbour. -/
theorem mask_left (p : Fin 2048) : k0_pay3 (ix2 (0 : Fin 1) p) = if p.val % 128 = 0 then 0#1 else 1#1 := by
  revert p; decide +kernel

/-- The mask of the columns that have a right neighbour. -/
theorem mask_right (p : Fin 2048) : k0_pay4 (ix2 (0 : Fin 1) p) = if p.val % 128 = 127 then 0#1 else 1#1 := by
  revert p; decide +kernel

/-- A shape cast to the same shape. -/
theorem cast_self {s : Shape} (v : FVec Ideal s .f32) (h : s.ShapeCasts s) : shapeCast s v h = v := shapeCast_self v h

/-- The product at an index. -/
theorem prodV_apply (w : FVec Ideal S288x576 .f32) (X : Fin 576 → Fin 2304 → ℝ) (W : Fin 288 → Fin 576 → ℝ) (hw : w = up2 W)
    (r : Fin 288) (l : Fin 2304) : prodV w (up2 X) (ix2 r l) = ((∑ k, W r k * X k l : ℝ) : EReal) := by
  subst hw
  unfold prodV
  rw [cast_self]
  pointwise
  simp only [up2_ix, ← EReal.coe_mul, coe_sum]

/-- The convolution's column, from the product's rows. -/
def convR (W : Fin 288 → Fin 576 → ℝ) (X : Fin 576 → Fin 2304 → ℝ) (U V : Fin 96 → Fin 2048 → ℝ) (o : Fin 96) (p : Fin 2048) : ℝ :=
  (∑ k, W ⟨96 + o, by omega⟩ k * X k ⟨128 + p, by omega⟩)
    + (if p.val % 128 = 0 then 0 else ∑ k, W ⟨o, by omega⟩ k * X k ⟨127 + p, by omega⟩)
    + (if p.val % 128 = 127 then 0 else ∑ k, W ⟨192 + o, by omega⟩ k * X k ⟨129 + p, by omega⟩)
    + 2 * (U o p + V o p)

/-- The convolution stage on real arrays. -/
theorem convV_eq (W : Fin 288 → Fin 576 → ℝ) (X : Fin 576 → Fin 2304 → ℝ) (u v : FVec Ideal S1x1x96x2048 .f32)
    (U V : Fin 96 → Fin 2048 → ℝ) (hu : ∀ o p, u (ix4 0 0 o p) = ((U o p : ℝ) : EReal)) (hv : ∀ o p, v (ix4 0 0 o p) = ((V o p : ℝ) : EReal)) :
    convV (up2 W) (up2 X) u v = up2 (convR W X U V) := by
  refine eq_up2 _ _ fun o p => ?_
  have e1 := prodV_apply _ X W rfl ⟨96 + o, by omega⟩ ⟨128 + p, by omega⟩
  have e2 := prodV_apply _ X W rfl ⟨o, by omega⟩ ⟨127 + p, by omega⟩
  have e3 := prodV_apply _ X W rfl ⟨192 + o, by omega⟩ ⟨129 + p, by omega⟩
  unfold convV
  generalize prodV (up2 W) (up2 X) = P at *
  pointwise
  rw [e1, e2, e3, hu, hv, mask_left, mask_right, ofBits_eq 0x40000000#32 (by decide), K_two]
  unfold convR
  have hl : ∀ (c : Prop) [Decidable c] (x : ℝ), Scalar.select (if c then 0#1 else 1#1) (x : EReal) (0 : EReal)
      = (((if c then 0 else x : ℝ)) : EReal) := by
    intro c _ x; by_cases hc : c <;> simp [hc, Scalar.select]
  rw [hl, hl]
  simp only [← EReal.coe_add, ← EReal.coe_mul]

/-- The mean over the channels on real arrays. -/
theorem meanV_eq (T : Fin 96 → Fin 2048 → ℝ) : meanV (up2 T) = up2 (fun _ p => Spec.mean (fun k => T k p)) := by
  refine eq_up2 _ _ fun o p => ?_
  unfold meanV Spec.mean
  pointwise
  rw [ofBits_eq 0x42C00000#32 (by decide), K_96]
  simp only [up2_ix, coe_sum]
  rw [div_coe _ _ (by norm_num)]

/-- The difference from the mean on real arrays. -/
theorem devV_eq (T : Fin 96 → Fin 2048 → ℝ) : devV (up2 T) = up2 (fun o p => T o p - Spec.mean (fun k => T k p)) := by
  refine eq_up2 _ _ fun o p => ?_
  unfold devV
  rw [meanV_eq]
  pointwise
  simp only [up2_ix, ← EReal.coe_sub]

/-- The square of a real array. -/
theorem sq_eq (T : Fin 96 → Fin 2048 → ℝ) : mulf (up2 T) (up2 T) = up2 (fun o p => T o p * T o p) := by
  refine eq_up2 _ _ fun o p => ?_
  pointwise
  simp only [up2_ix, ← EReal.coe_mul]

/-- Layer normalization on real arrays. -/
theorem lnV_eq (T G B : Fin 96 → Fin 2048 → ℝ) : lnV (up2 T) (up2 G) (up2 B)
    = up2 (fun o p => Spec.ln (fun k => T k p) (fun k => G k p) (fun k => B k p) o) := by
  refine eq_up2 _ _ fun o p => ?_
  unfold lnV
  rw [cast_self, cast_self, devV_eq, sq_eq, meanV_eq]
  pointwise
  have h := Spec.var_eps_pos (fun k => T k p)
  have e : Spec.mean (fun k => (T k p - Spec.mean fun k => T k p) * (T k p - Spec.mean fun k => T k p)) = Spec.var (fun k => T k p) := rfl
  simp only [up2_ix]
  rw [e, ofBits_eq 0x3727C5AC#32 (by decide), ← EReal.coe_add, show K 0x3727C5AC#32 = Spec.eps from rfl, rsqrt_coe _ h]
  unfold Spec.ln
  simp only [← EReal.coe_add, ← EReal.coe_mul]

/-- The attention step on real arrays. -/
theorem attnV_eq (W : Fin 96 → Fin 96 → ℝ) (C G B T : Fin 96 → Fin 2048 → ℝ) : attnV (up2 W) (up2 C) (up2 G) (up2 B) (up2 T)
    = up2 (fun o p => Spec.attn W (fun k => C k p) (fun k => G k p) (fun k => B k p) (fun k => T k p) o) := by
  refine eq_up2 _ _ fun o p => ?_
  unfold attnV
  rw [cast_self, cast_self, lnV_eq]
  pointwise
  simp only [up2_ix, ← EReal.coe_mul, coe_sum, ← EReal.coe_add]
  rfl

/-- The hidden layer on real arrays. -/
theorem hidV_eq (W : Fin 384 → Fin 96 → ℝ) (C : Fin 384 → Fin 2048 → ℝ) (G B T : Fin 96 → Fin 2048 → ℝ) :
    hidV (up2 W) (up2 C) (up2 G) (up2 B) (up2 T)
      = up2 (fun j p => Spec.hid W (fun k => C k p) (fun k => G k p) (fun k => B k p) (fun k => T k p) j) := by
  refine eq_up2 _ _ fun o p => ?_
  unfold hidV
  rw [cast_self, lnV_eq]
  pointwise
  simp only [up2_ix, ← EReal.coe_mul, coe_sum, ← EReal.coe_add]
  rfl

/-- One constant at an index. -/
theorem cst_apply (b : BitVec 32) (h : (b.extractLsb' 23 8).toNat ≠ 255) : cst b = up2 (fun _ _ => K b) := by
  funext i; exact ofBits_eq b h

/-- The pattern of zero. -/
theorem K_zero : K 0x00000000#32 = 0 := by
  unfold K; simp [Ideal.ofBits, Ideal.ieee]

/-- The error function stage on real arrays, at numbers that are not negative. -/
theorem erfV_eq (a : Fin 384 → Fin 2048 → ℝ) (ha : ∀ i j, 0 ≤ a i j) : erfV (up2 a) = up2 (fun i j => Spec.erfPos (a i j)) := by
  refine eq_up2 _ _ fun i j => ?_
  have hp : 1 + K 0x3EA7BA05#32 * a i j ≠ 0 := by
    have h1 : 0 < K 0x3EA7BA05#32 := K_pos _ (by decide) (by decide) (by decide)
    have h2 := mul_nonneg h1.le (ha i j)
    linarith
  have ht : tV (up2 a) (ix2 i j) = ((1 / (1 + K 0x3EA7BA05#32 * a i j) : ℝ) : EReal) := by
    unfold tV
    rw [cst_apply _ (by decide), cst_apply _ (by decide)]
    pointwise
    simp only [up2_ix]
    rw [K_one, ← EReal.coe_mul, ← EReal.coe_add, div_coe _ _ hp]
  unfold erfV polyV Spec.erfPos
  generalize tV (up2 a) = t at *
  rw [cst_apply 0x3F800000#32 (by decide), cst_apply 0x3E827906#32 (by decide), cst_apply 0xBE91A98E#32 (by decide),
    cst_apply 0x3FB5F0E3#32 (by decide), cst_apply 0xBFBA00E3#32 (by decide), cst_apply 0x3F87DC22#32 (by decide),
    cst_apply 0x00000000#32 (by decide)]
  pointwise
  simp only [up2_ix]
  rw [ht, K_one, K_zero, K_neg 0x3E91A98E#32 0xBE91A98E#32 (by decide) (by decide) (by decide) (by decide) (by decide) (by decide),
    K_neg 0x3FBA00E3#32 0xBFBA00E3#32 (by decide) (by decide) (by decide) (by decide) (by decide) (by decide)]
  simp only [← EReal.coe_add, ← EReal.coe_mul, ← EReal.coe_sub, Ideal.exp_coe, zero_sub]

/-- The gelu stage on real arrays. -/
theorem geluV_eq (x : Fin 384 → Fin 2048 → ℝ) : geluV (up2 x) = up2 (fun i j => Spec.gelu (x i j)) := by
  have hax : axV (up2 x) = up2 (fun i j => |x i j| * K 0x3F3504F3#32) := by
    refine eq_up2 _ _ fun i j => ?_
    unfold axV
    rw [cst_apply _ (by decide)]
    pointwise
    simp only [up2_ix]
    rw [Ideal.absf_def, abs_coe, ← EReal.coe_mul]
  have hc : 0 < K 0x3F3504F3#32 := K_pos _ (by decide) (by decide) (by decide)
  refine eq_up2 _ _ fun i j => ?_
  unfold geluV
  rw [hax, erfV_eq _ fun i j => mul_nonneg (abs_nonneg _) hc.le, cst_apply 0x3F800000#32 (by decide), cst_apply 0x3F000000#32 (by decide),
    cst_apply 0x00000000#32 (by decide)]
  pointwise
  have hz : up2 (fun _ _ => K 0x00000000#32) (ix2 i j) = ((0 : ℝ) : EReal) := by rw [up2_ix, K_zero]
  unfold Spec.gelu
  by_cases h : x i j < 0
  · have h' : up2 x (ix2 i j) < up2 (fun _ _ => K 0x00000000#32) (ix2 i j) := by
      rw [hz, up2_ix]; exact EReal.coe_lt_coe_iff.2 h
    rw [if_pos h', if_pos h]
    simp only [up2_ix]
    rw [K_one, K_zero, K_half]
    simp only [← EReal.coe_add, ← EReal.coe_mul, ← EReal.coe_sub, zero_sub]
  · have h' : ¬ up2 x (ix2 i j) < up2 (fun _ _ => K 0x00000000#32) (ix2 i j) := by
      rw [hz, up2_ix]; exact mt EReal.coe_lt_coe_iff.1 h
    rw [if_neg h', if_neg h]
    simp only [up2_ix]
    rw [K_one, K_half]
    simp only [← EReal.coe_add, ← EReal.coe_mul]

/-- The MLP step on real arrays. -/
theorem mlpV_eq (W1 : Fin 384 → Fin 96 → ℝ) (C1 : Fin 384 → Fin 2048 → ℝ) (W2 : Fin 96 → Fin 384 → ℝ) (C2 G B T : Fin 96 → Fin 2048 → ℝ) :
    mlpV (up2 W1) (up2 C1) (up2 W2) (up2 C2) (up2 G) (up2 B) (up2 T)
      = up2 (fun o p => Spec.mlp W1 (fun k => C1 k p) W2 (fun k => C2 k p) (fun k => G k p) (fun k => B k p) (fun k => T k p) o) := by
  refine eq_up2 _ _ fun o p => ?_
  unfold mlpV
  rw [cast_self, hidV_eq, geluV_eq]
  pointwise
  simp only [up2_ix, ← EReal.coe_mul, coe_sum, ← EReal.coe_add]
  rfl

/-- What one chunk stores, on real arrays. -/
theorem chunkV_apply (W : Fin 288 → Fin 576 → ℝ) (X : Fin 576 → Fin 2304 → ℝ) (u v : FVec Ideal S1x1x96x2048 .f32)
    (U V : Fin 96 → Fin 2048 → ℝ) (hu : ∀ o p, u (ix4 0 0 o p) = ((U o p : ℝ) : EReal)) (hv : ∀ o p, v (ix4 0 0 o p) = ((V o p : ℝ) : EReal))
    (W3 : Fin 96 → Fin 96 → ℝ) (C4 G5 B6 G7 B8 : Fin 96 → Fin 2048 → ℝ) (W9 : Fin 384 → Fin 96 → ℝ) (C10 : Fin 384 → Fin 2048 → ℝ)
    (W11 : Fin 96 → Fin 384 → ℝ) (C12 : Fin 96 → Fin 2048 → ℝ) (o : Fin 96) (p : Fin 2048) :
    chunkV (up2 W) (up2 X) u v (up2 W3) (up2 C4) (up2 G5) (up2 B6) (up2 G7) (up2 B8) (up2 W9) (up2 C10) (up2 W11) (up2 C12) (ix3 0 o p)
      = ((Spec.mlp W9 (fun k => C10 k p) W11 (fun k => C12 k p) (fun k => G7 k p) (fun k => B8 k p)
          (Spec.attn W3 (fun k => C4 k p) (fun k => G5 k p) (fun k => B6 k p) (fun k => convR W X U V k p)) o : ℝ) : EReal) := by
  unfold chunkV
  rw [convV_eq W X u v U V hu hv, attnV_eq, mlpV_eq]
  pointwise
  rfl

end Cert.Val
-- ==== Proof.Region0.lean ====
/- The convolution kernel: what its block holds after a grid point, over the reals. -/
module

public import proofs.«01_k».proof.Proof.Chunk
public import proofs.«01_k».proof.Proof.Gen.KernelIdeal.Frame
public import Idealize.ShloMosaic.Lib.Pipeline.ValueKit
public import Idealize.ShloMosaic.Lib.Pipeline.CanonAppend
@[expose] public section
set_option maxRecDepth 16384
noncomputable section
namespace Cert.Val
open Idealize.ShloMosaic Idealize.ShloMosaic.TcCoe Idealize.ShloMosaic.Tactic Idealize.SL Cert.KernelIdeal Cert.KernelIdeal.Gen
open scoped BigOperators
/-- A row of the image at a position along the slab; zero past its end. -/
def rowAt (S : Fin 96 → Fin 8704 → ℝ) (c : Fin 96) (m : ℕ) : ℝ := if h : m < 8704 then S c ⟨m, h⟩ else 0

/-- The gathered rows: for either image and each of the three row shifts, every channel. -/
def rowsN (S1 S2 : Fin 96 → Fin 8704 → ℝ) (k : Fin 576) (m : ℕ) : ℝ :=
  rowAt (if k.val < 288 then S1 else S2) ⟨k % 96, by omega⟩ (k / 96 % 3 * 128 + m)

/-- What one gathering store writes. -/
def slabPay (v : Vec Ideal S1x1x96x2304 .f32) : FVec Ideal S96x2304 .f32 :=
  shapeCast S96x2304 (shapeCast S96x2304 v shapeCasts_S1x1x96x2304_S96x2304) shapeCasts_S96x2304_S96x2304

/-- A gathering store at an index. -/
theorem slabPay_ld (u : Vec Ideal S1x1x96x8704 .f32) (S : Fin 96 → Fin 8704 → ℝ) (h : ∀ c m, u (ix4 0 0 c m) = ((S c m : ℝ) : EReal))
    (s : ℕ) (inb) (c : Fin 96) (l : Fin 2304) (hs : s + 2304 ≤ 8704) :
    slabPay (View.ld u (Rect.unit ![0, 0, 0, s] ![1, 1, 96, 2304] inb)) (ix2 c l) = ((rowAt S c (s + l) : ℝ) : EReal) := by
  unfold slabPay
  rw [cast_self]
  pointwise
  exact (h c ⟨s + l, by omega⟩).trans (by rw [rowAt, dif_pos])

/-- The centre columns of a chunk at an index. -/
theorem centre_ld (u : Vec Ideal S1x1x96x8704 .f32) (S : Fin 96 → Fin 8704 → ℝ) (h : ∀ c m, u (ix4 0 0 c m) = ((S c m : ℝ) : EReal))
    (s : ℕ) (inb) (c : Fin 96) (l : Fin 2048) (hs : s + 2048 ≤ 8704) :
    View.ld u (Rect.unit ![0, 0, 0, s] ![1, 1, 96, 2048] inb) (ix4 0 0 c l) = ((rowAt S c (s + l) : ℝ) : EReal) := by
  pointwise
  exact (h c ⟨s + l, by omega⟩).trans (by rw [rowAt, dif_pos])

/-- The gathered rows of a chunk, as the scratch buffer's contents. -/
def rowsG (S1 S2 : Fin 96 → Fin 8704 → ℝ) (s : ℕ) (y : S576x2304.Idx) : EReal := ((rowsN S1 S2 (y 0) (s + (y 1).val) : ℝ) : EReal)

/-- Each gathering store writes a block of those rows. -/
theorem slab_piece (u : Vec Ideal S1x1x96x8704 .f32) (S S1 S2 : Fin 96 → Fin 8704 → ℝ) (h : ∀ c m, u (ix4 0 0 c m) = ((S c m : ℝ) : EReal))
    (s q : ℕ) (hs : s ≤ 6144) (hq : q < 6) (hS : (if q < 3 then S1 else S2) = S) (inb) (inb')
    (x : (Rect.unit (s := S576x2304) ![96 * q, 0] ![96, 2304] inb').shape.Idx) :
    slabPay (View.ld u (Rect.unit ![0, 0, 0, s + q % 3 * 128] ![1, 1, 96, 2304] inb)) x
      = rowsG S1 S2 s ((Rect.unit (s := S576x2304) ![96 * q, 0] ![96, 2304] inb').emb x) := by
  have hx : (x : S96x2304.Idx) = ix2 (x 0) (x 1) := eq_ix2 (x : S96x2304.Idx)
  have h0 : (x 0).val < 96 := (x 0).isLt
  have h1 : (x 1).val < 2304 := (x 1).isLt
  have e0 : ((Rect.unit (s := S576x2304) ![96 * q, 0] ![96, 2304] inb').emb x 0).val = 96 * q + (x 0).val :=
    Rect.idx_unit_val (s := S576x2304) ![96 * q, 0] ![96, 2304] inb' x 0
  have e1 : ((Rect.unit (s := S576x2304) ![96 * q, 0] ![96, 2304] inb').emb x 1).val = (x 1).val :=
    (Rect.idx_unit_val (s := S576x2304) ![96 * q, 0] ![96, 2304] inb' x 1).trans (Nat.zero_add _)
  refine (congrArg (slabPay _) hx).trans ?_
  refine (slabPay_ld u S h _ inb (x 0) (x 1) (by omega)).trans ?_
  unfold rowsG rowsN
  rw [e1]
  congr 1
  have hk : ((Rect.unit (s := S576x2304) ![96 * q, 0] ![96, 2304] inb').emb x 0).val < 288 ↔ q < 3 := by rw [e0]; omega
  have hS' : (if ((Rect.unit (s := S576x2304) ![96 * q, 0] ![96, 2304] inb').emb x 0).val < 288 then S1 else S2) = S := by
    rw [← hS]; exact if_congr hk rfl rfl
  rw [hS']
  have hc : (x 0) = (⟨((Rect.unit (s := S576x2304) ![96 * q, 0] ![96, 2304] inb').emb x 0).val % 96, by omega⟩ : Fin 96) := by
    apply Fin.ext; show (x 0).val = ((Rect.unit (s := S576x2304) ![96 * q, 0] ![96, 2304] inb').emb x 0).val % 96; omega
  have hm : s + q % 3 * 128 + (x 1).val = ((Rect.unit (s := S576x2304) ![96 * q, 0] ![96, 2304] inb').emb x 0).val / 96 % 3 * 128 + (s + (x 1).val) := by
    rw [e0]; omega
  rw [← hc, ← hm]

/-- The scratch buffer after the six gathering stores of a chunk, whatever was stored before. -/
theorem x6_eq (u0 u1 : Vec Ideal S1x1x96x8704 .f32) (S1 S2 : Fin 96 → Fin 8704 → ℝ)
    (h0 : ∀ c m, u0 (ix4 0 0 c m) = ((S1 c m : ℝ) : EReal)) (h1 : ∀ c m, u1 (ix4 0 0 c m) = ((S2 c m : ℝ) : EReal))
    (s : ℕ) (hs : s ≤ 6144) (j0 : ∀ a, (![0, 0, 0, s] : Fin 4 → ℕ) a + (![1, 1, 96, 2304] : Fin 4 → ℕ) a ≤ S1x1x96x8704.size a)
    (j1 : ∀ a, (![0, 0, 0, s + 128] : Fin 4 → ℕ) a + (![1, 1, 96, 2304] : Fin 4 → ℕ) a ≤ S1x1x96x8704.size a)
    (j2 : ∀ a, (![0, 0, 0, s + 256] : Fin 4 → ℕ) a + (![1, 1, 96, 2304] : Fin 4 → ℕ) a ≤ S1x1x96x8704.size a)
    (L : List (View.Piece (Elt Ideal) S576x2304 .f32)) :
    (View.whole cc0_scratch0).readCov
      (⟨Rect.unit ![480, 0] ![96, 2304] inb_S576x2304_S96x2304_480_0, slabPay (View.ld u1 (Rect.unit ![0, 0, 0, s + 256] ![1, 1, 96, 2304] j2))⟩
      :: ⟨Rect.unit ![384, 0] ![96, 2304] inb_S576x2304_S96x2304_384_0, slabPay (View.ld u1 (Rect.unit ![0, 0, 0, s + 128] ![1, 1, 96, 2304] j1))⟩
      :: ⟨Rect.unit ![288, 0] ![96, 2304] inb_S576x2304_S96x2304_288_0, slabPay (View.ld u1 (Rect.unit ![0, 0, 0, s] ![1, 1, 96, 2304] j0))⟩
      :: ⟨Rect.unit ![192, 0] ![96, 2304] inb_S576x2304_S96x2304_192_0, slabPay (View.ld u0 (Rect.unit ![0, 0, 0, s + 256] ![1, 1, 96, 2304] j2))⟩
      :: ⟨Rect.unit ![96, 0] ![96, 2304] inb_S576x2304_S96x2304_96_0, slabPay (View.ld u0 (Rect.unit ![0, 0, 0, s + 128] ![1, 1, 96, 2304] j1))⟩
      :: ⟨Rect.unit ![0, 0] ![96, 2304] inb_S576x2304_S96x2304_0_0, slabPay (View.ld u0 (Rect.unit ![0, 0, 0, s] ![1, 1, 96, 2304] j0))⟩
      :: L) (Rect.unit ![0, 0] ![576, 2304] inb_S576x2304_S576x2304_0_0).toLoadRect
      = up2 (fun k l => rowsN S1 S2 k (s + l)) := by
  refine eq_up2 _ _ fun k l => ?_
  rw [View.readCov_eq_canon']
  have hi : (Rect.unit (s := S576x2304) ![0, 0] ![576, 2304] inb_S576x2304_S576x2304_0_0).toLoadRect.idx (ix2 k l) = (ix2 k l : S576x2304.Idx) := by
    funext a
    apply Fin.ext
    refine (Rect.idx_unit_val (s := S576x2304) ![0, 0] ![576, 2304] inb_S576x2304_S576x2304_0_0 (ix2 k l) a).trans ?_
    fin_cases a <;> exact Nat.zero_add _
  refine (congrArg (View.canon _) hi).trans ?_
  refine (View.canon_append_of_pieces (rowsG S1 S2 s) L [_, _, _, _, _, _] ?_ (ix2 k l) ?_).trans rfl
  · intro p hp x
    simp only [List.mem_cons, List.not_mem_nil, or_false] at hp
    rcases hp with rfl | rfl | rfl | rfl | rfl | rfl
    · exact slab_piece u1 S2 S1 S2 h1 s 5 hs (by omega) rfl j2 inb_S576x2304_S96x2304_480_0 x
    · exact slab_piece u1 S2 S1 S2 h1 s 4 hs (by omega) rfl j1 inb_S576x2304_S96x2304_384_0 x
    · exact slab_piece u1 S2 S1 S2 h1 s 3 hs (by omega) rfl j0 inb_S576x2304_S96x2304_288_0 x
    · exact slab_piece u0 S1 S1 S2 h0 s 2 hs (by omega) rfl j2 inb_S576x2304_S96x2304_192_0 x
    · exact slab_piece u0 S1 S1 S2 h0 s 1 hs (by omega) rfl j1 inb_S576x2304_S96x2304_96_0 x
    · exact slab_piece u0 S1 S1 S2 h0 s 0 hs (by omega) rfl j0 inb_S576x2304_S96x2304_0_0 x
  · have hk := k.isLt
    have hl := l.isLt
    have hm : ∀ (q : ℕ) (inb), k.val / 96 = q → (ix2 k l : S576x2304.Idx) ∈ (Rect.unit (s := S576x2304) ![96 * q, 0] ![96, 2304] inb).set := by
      intro q inb e
      rw [Rect.mem_set_unit]
      intro a
      fin_cases a
      · show 96 * q ≤ k.val ∧ k.val < 96 * q + 96; omega
      · show 0 ≤ l.val ∧ l.val < 0 + 2304; omega
    have hq : k.val / 96 < 6 := by omega
    generalize hqe : k.val / 96 = q at hq
    interval_cases q
    · exact ⟨_, List.Mem.tail _ (List.Mem.tail _ (List.Mem.tail _ (List.Mem.tail _ (List.Mem.tail _ (List.Mem.head _))))), hm 0 inb_S576x2304_S96x2304_0_0 hqe⟩
    · exact ⟨_, List.Mem.tail _ (List.Mem.tail _ (List.Mem.tail _ (List.Mem.tail _ (List.Mem.head _)))), hm 1 inb_S576x2304_S96x2304_96_0 hqe⟩
    · exact ⟨_, List.Mem.tail _ (List.Mem.tail _ (List.Mem.tail _ (List.Mem.head _))), hm 2 inb_S576x2304_S96x2304_192_0 hqe⟩
    · exact ⟨_, List.Mem.tail _ (List.Mem.tail _ (List.Mem.head _)), hm 3 inb_S576x2304_S96x2304_288_0 hqe⟩
    · exact ⟨_, List.Mem.tail _ (List.Mem.head _), hm 4 inb_S576x2304_S96x2304_384_0 hqe⟩
    · exact ⟨_, List.Mem.head _, hm 5 inb_S576x2304_S96x2304_480_0 hqe⟩

/-- The convolution of a slab and twice the sum of the images, at a pixel of the slab and an output channel. -/
def convN (W : Fin 288 → Fin 576 → ℝ) (S1 S2 : Fin 96 → Fin 8704 → ℝ) (n : ℕ) (o : Fin 96) : ℝ :=
  (∑ k, W ⟨96 + o, by omega⟩ k * rowsN S1 S2 k (n + 128))
    + (if n % 128 = 0 then 0 else ∑ k, W ⟨o, by omega⟩ k * rowsN S1 S2 k (n + 127))
    + (if n % 128 = 127 then 0 else ∑ k, W ⟨192 + o, by omega⟩ k * rowsN S1 S2 k (n + 129))
    + 2 * (rowAt S1 o (n + 256) + rowAt S2 o (n + 256))

/-- A chunk's convolution is the slab's at the chunk's place. -/
theorem convR_eq (W : Fin 288 → Fin 576 → ℝ) (S1 S2 : Fin 96 → Fin 8704 → ℝ) (s : ℕ) (hs : s % 128 = 0) (o : Fin 96) (p : Fin 2048) :
    convR W (fun k l => rowsN S1 S2 k (s + l)) (fun o p => rowAt S1 o (s + 256 + p)) (fun o p => rowAt S2 o (s + 256 + p)) o p
      = convN W S1 S2 (s + p) o := by
  unfold convR convN
  have e0 : p.val % 128 = (s + p.val) % 128 := by omega
  have e1 : s + (128 + p.val) = s + p.val + 128 := by omega
  have e2 : s + (127 + p.val) = s + p.val + 127 := by omega
  have e3 : s + (129 + p.val) = s + p.val + 129 := by omega
  have e4 : s + 256 + p.val = s + p.val + 256 := by omega
  simp only [e0, e1, e2, e3, e4]

/-- What the convolution kernel's block holds, at a channel and a pixel of the slab. -/
def outN (W : Fin 288 → Fin 576 → ℝ) (S1 S2 : Fin 96 → Fin 8704 → ℝ) (W3 : Fin 96 → Fin 96 → ℝ) (C4 G5 B6 G7 B8 : Fin 96 → ℝ)
    (W9 : Fin 384 → Fin 96 → ℝ) (C10 : Fin 384 → ℝ) (W11 : Fin 96 → Fin 384 → ℝ) (C12 : Fin 96 → ℝ) (n : ℕ) (o : Fin 96) : ℝ :=
  Spec.mlp W9 C10 W11 C12 G7 B8 (Spec.attn W3 C4 G5 B6 (convN W S1 S2 n)) o

/-- A chunk's store from its loads, at a channel and a column of the chunk. -/
theorem chunk_at (W : Fin 288 → Fin 576 → ℝ) (S1 S2 : Fin 96 → Fin 8704 → ℝ) (W3 : Fin 96 → Fin 96 → ℝ) (C4 G5 B6 G7 B8 : Fin 96 → ℝ)
    (W9 : Fin 384 → Fin 96 → ℝ) (C10 : Fin 384 → ℝ) (W11 : Fin 96 → Fin 384 → ℝ) (C12 : Fin 96 → ℝ)
    (u0 u1 : Vec Ideal S1x1x96x8704 .f32) (h0 : ∀ c m, u0 (ix4 0 0 c m) = ((S1 c m : ℝ) : EReal)) (h1 : ∀ c m, u1 (ix4 0 0 c m) = ((S2 c m : ℝ) : EReal))
    (s : ℕ) (hs : s ≤ 6144) (hs' : s % 128 = 0) (inb) (o : Fin 96) (p : Fin 2048) :
    chunkV (up2 W) (up2 fun k l => rowsN S1 S2 k (s + l)) (View.ld u0 (Rect.unit ![0, 0, 0, s + 256] ![1, 1, 96, 2048] inb)) (View.ld u1 (Rect.unit ![0, 0, 0, s + 256] ![1, 1, 96, 2048] inb))
      (up2 W3) (up2 fun k _ => C4 k) (up2 fun k _ => G5 k) (up2 fun k _ => B6 k) (up2 fun k _ => G7 k) (up2 fun k _ => B8 k)
      (up2 W9) (up2 fun k _ => C10 k) (up2 W11) (up2 fun k _ => C12 k) (ix3 0 o p)
      = ((outN W S1 S2 W3 C4 G5 B6 G7 B8 W9 C10 W11 C12 (s + p) o : ℝ) : EReal) := by
  have a0 := fun o p => centre_ld u0 S1 h0 (s + 256) inb o p (by omega)
  have a1 := fun o p => centre_ld u1 S2 h1 (s + 256) inb o p (by omega)
  generalize View.ld u0 (Rect.unit ![0, 0, 0, s + 256] ![1, 1, 96, 2048] inb) = U at *
  generalize View.ld u1 (Rect.unit ![0, 0, 0, s + 256] ![1, 1, 96, 2048] inb) = U' at *
  refine (chunkV_apply W _ U U' (fun o p => rowAt S1 o (s + 256 + p)) (fun o p => rowAt S2 o (s + 256 + p)) a0 a1 W3
    (fun k _ => C4 k) (fun k _ => G5 k) (fun k _ => B6 k) (fun k _ => G7 k) (fun k _ => B8 k) W9 (fun k _ => C10 k) W11 (fun k _ => C12 k) o p).trans ?_
  unfold outN
  rw [show (fun k => convR W (fun k l => rowsN S1 S2 k (s + l)) (fun o p => rowAt S1 o (s + 256 + p)) (fun o p => rowAt S2 o (s + 256 + p)) k p)
    = convN W S1 S2 (s + p) from funext fun k => convR_eq W S1 S2 s hs' k p]

/-- A chunk's store from its loads, at an index of the chunk and its place in the block. -/
theorem chunk_out (W : Fin 288 → Fin 576 → ℝ) (S1 S2 : Fin 96 → Fin 8704 → ℝ) (W3 : Fin 96 → Fin 96 → ℝ) (C4 G5 B6 G7 B8 : Fin 96 → ℝ)
    (W9 : Fin 384 → Fin 96 → ℝ) (C10 : Fin 384 → ℝ) (W11 : Fin 96 → Fin 384 → ℝ) (C12 : Fin 96 → ℝ)
    (u0 u1 : Vec Ideal S1x1x96x8704 .f32) (h0 : ∀ c m, u0 (ix4 0 0 c m) = ((S1 c m : ℝ) : EReal)) (h1 : ∀ c m, u1 (ix4 0 0 c m) = ((S2 c m : ℝ) : EReal))
    (s : ℕ) (hs : s ≤ 6144) (hs' : s % 128 = 0) (inb) (x : Vec Ideal S576x2304 .f32) (hx : x = up2 (fun k l => rowsN S1 S2 k (s + l)))
    (y : S1x96x8192.Idx) (j : S1x96x2048.Idx) (e1 : (y 1).val = (j 1).val) (e2 : (y 2).val = s + (j 2).val) :
    chunkV (up2 W) x (View.ld u0 (Rect.unit ![0, 0, 0, s + 256] ![1, 1, 96, 2048] inb)) (View.ld u1 (Rect.unit ![0, 0, 0, s + 256] ![1, 1, 96, 2048] inb))
      (up2 W3) (up2 fun k _ => C4 k) (up2 fun k _ => G5 k) (up2 fun k _ => B6 k) (up2 fun k _ => G7 k) (up2 fun k _ => B8 k)
      (up2 W9) (up2 fun k _ => C10 k) (up2 W11) (up2 fun k _ => C12 k) j
      = ((outN W S1 S2 W3 C4 G5 B6 G7 B8 W9 C10 W11 C12 (y 2) (y 1) : ℝ) : EReal) := by
  subst hx
  have hj : j = ix3 0 (j 1) (j 2) := by
    refine (eq_ix3 j).trans ?_
    have : j 0 = (0 : Fin 1) := Subsingleton.elim (α := Fin 1) _ _
    exact congrArg (fun a => ix3 a (j 1) (j 2)) this
  have hy : (y 1 : Fin 96) = j 1 := Fin.ext e1
  refine (congrArg _ hj).trans ((chunk_at W S1 S2 W3 C4 G5 B6 G7 B8 W9 C10 W11 C12 u0 u1 h0 h1 s hs hs' inb (j 1) (j 2)).trans ?_)
  rw [← e2, ← hy]

variable (V : (c : Dev nD) → (b : Ref sig .tc) → Buf (Elt Ideal) ((c : Thread nD τ).loc b))

/-- The block the convolution kernel leaves at a grid point, from its input blocks. -/
theorem out0_eq (c : Dev nD) (t : Fin cfg0.N) (W : Fin 288 → Fin 576 → ℝ) (S1 S2 : Fin 96 → Fin 8704 → ℝ) (W3 : Fin 96 → Fin 96 → ℝ)
    (C4 G5 B6 G7 B8 : Fin 96 → ℝ) (W9 : Fin 384 → Fin 96 → ℝ) (C10 : Fin 384 → ℝ) (W11 : Fin 96 → Fin 384 → ℝ) (C12 : Fin 96 → ℝ)
    (h0 : ∀ c' m, (iblk0 V c 0 t : Vec Ideal S1x1x96x8704 .f32) (ix4 0 0 c' m) = ((S1 c' m : ℝ) : EReal))
    (h1 : ∀ c' m, (iblk0 V c 1 t : Vec Ideal S1x1x96x8704 .f32) (ix4 0 0 c' m) = ((S2 c' m : ℝ) : EReal))
    (h2 : iblk0 V c 2 t = up2 W) (h3 : iblk0 V c 3 t = up2 W3) (h4 : iblk0 V c 4 t = up2 (fun k (_ : Fin 2048) => C4 k))
    (h5 : iblk0 V c 5 t = up2 (fun k (_ : Fin 2048) => G5 k)) (h6 : iblk0 V c 6 t = up2 (fun k (_ : Fin 2048) => B6 k))
    (h7 : iblk0 V c 7 t = up2 (fun k (_ : Fin 2048) => G7 k)) (h8 : iblk0 V c 8 t = up2 (fun k (_ : Fin 2048) => B8 k))
    (h9 : iblk0 V c 9 t = up2 W9) (h10 : iblk0 V c 10 t = up2 (fun k (_ : Fin 2048) => C10 k)) (h11 : iblk0 V c 11 t = up2 W11)
    (h12 : iblk0 V c 12 t = up2 (fun k (_ : Fin 2048) => C12 k)) (y : S1x96x8192.Idx) :
    outsAt0 V c t y = ((outN W S1 S2 W3 C4 G5 B6 G7 B8 W9 C10 W11 C12 (y 2) (y 1) : ℝ) : EReal) := by
  unfold outsAt0
  frame_out
  generalize iblk0 V c 0 t = u0 at *
  generalize iblk0 V c 1 t = u1 at *
  rw [h2, h3, h4, h5, h6, h7, h8, h9, h10, h11, h12]
  canon_tiles x e
  · generalize hX : View.readCov (Val := Elt Ideal) (View.whole cc0_scratch0) _ _ = X
    exact chunk_out W S1 S2 W3 C4 G5 B6 G7 B8 W9 C10 W11 C12 u0 u1 h0 h1 6144 (by omega) (by omega) inb_S1x1x96x8704_S1x1x96x2048_0_0_0_6400 X
      (hX.symm.trans (x6_eq u0 u1 S1 S2 h0 h1 6144 (by omega) inb_S1x1x96x8704_S1x1x96x2304_0_0_0_6144
        inb_S1x1x96x8704_S1x1x96x2304_0_0_0_6272 inb_S1x1x96x8704_S1x1x96x2304_0_0_0_6400 _)) y x (by omega) (by omega)
  · generalize hX : View.readCov (Val := Elt Ideal) (View.whole cc0_scratch0) _ _ = X
    exact chunk_out W S1 S2 W3 C4 G5 B6 G7 B8 W9 C10 W11 C12 u0 u1 h0 h1 4096 (by omega) (by omega) inb_S1x1x96x8704_S1x1x96x2048_0_0_0_4352 X
      (hX.symm.trans (x6_eq u0 u1 S1 S2 h0 h1 4096 (by omega) inb_S1x1x96x8704_S1x1x96x2304_0_0_0_4096
        inb_S1x1x96x8704_S1x1x96x2304_0_0_0_4224 inb_S1x1x96x8704_S1x1x96x2304_0_0_0_4352 _)) y x (by omega) (by omega)
  · generalize hX : View.readCov (Val := Elt Ideal) (View.whole cc0_scratch0) _ _ = X
    exact chunk_out W S1 S2 W3 C4 G5 B6 G7 B8 W9 C10 W11 C12 u0 u1 h0 h1 2048 (by omega) (by omega) inb_S1x1x96x8704_S1x1x96x2048_0_0_0_2304 X
      (hX.symm.trans (x6_eq u0 u1 S1 S2 h0 h1 2048 (by omega) inb_S1x1x96x8704_S1x1x96x2304_0_0_0_2048
        inb_S1x1x96x8704_S1x1x96x2304_0_0_0_2176 inb_S1x1x96x8704_S1x1x96x2304_0_0_0_2304 _)) y x (by omega) (by omega)
  · generalize hX : View.readCov (Val := Elt Ideal) (View.whole cc0_scratch0) _ _ = X
    exact chunk_out W S1 S2 W3 C4 G5 B6 G7 B8 W9 C10 W11 C12 u0 u1 h0 h1 0 (by omega) (by omega) inb_S1x1x96x8704_S1x1x96x2048_0_0_0_256 X
      (hX.symm.trans (x6_eq u0 u1 S1 S2 h0 h1 0 (by omega) inb_S1x1x96x8704_S1x1x96x2304_0_0_0_0
        inb_S1x1x96x8704_S1x1x96x2304_0_0_0_128 inb_S1x1x96x8704_S1x1x96x2304_0_0_0_256 [])) y x (by omega) (by omega)

end Cert.Val
-- ==== Proof.Feat.lean ====
/- The kernel's convolution over the slabs is the convolution of the padded images. -/
module

public import proofs.«01_k».proof.Proof.Region0
public import proofs.«01_k».proof.Proof.Host0

@[expose] public section
noncomputable section
namespace Cert.Val
open scoped BigOperators

/-- A sum over the 576 gathered rows: the two images, the three row shifts and the channels. -/
theorem sum576 (f : Fin 576 → ℝ) : (∑ k, f k)
    = (∑ dy : Fin 3, ∑ c : Fin 96, f ⟨dy.val * 96 + c.val, by omega⟩) + ∑ dy : Fin 3, ∑ c : Fin 96, f ⟨(3 + dy.val) * 96 + c.val, by omega⟩ := by
  have e : (∑ k, f k) = ∑ a : Fin 6, ∑ c : Fin 96, f ⟨a.val * 96 + c.val, by omega⟩ := by
    rw [← Finset.sum_product', Finset.univ_product_univ]
    refine (Fintype.sum_equiv (finProdFinEquiv (m := 6) (n := 96)) _ _ fun p => ?_).symm
    exact congrArg f (Fin.ext (by show p.1.val * 96 + p.2.val = p.2.val + 96 * p.1.val; omega))
  rw [e, Fin.sum_univ_six, Fin.sum_univ_three, Fin.sum_univ_three]
  simp only [add_assoc]
  rfl

/-- A slab's element at a row shift and a column shift is the padded image's, where the column is inside. -/
theorem row_pad (x : Fin 96 → Fin 128 → Fin 128 → ℝ) (n : Fin 16384) (c : Fin 96) (dy dx m : ℕ) (hdy : dy < 3) (hdx : dx < 3)
    (h1 : 1 ≤ n.val % 128 + dx) (h2 : n.val % 128 + dx ≤ 128) (hm : m = n.val % 8192 + (127 + dx)) :
    rowAt (slab x ⟨n.val / 8192, by omega⟩) c (dy * 128 + m) = Spec.pad (x c) (n.val / 128 + dy) (n.val % 128 + dx) := by
  subst hm
  unfold rowAt slab Spec.pad
  rw [dif_pos (by omega)]
  have e : (dy * 128 + (n.val % 8192 + (127 + dx))) / 128 = n.val % 8192 / 128 + dy + 1 := by omega
  have e' : (dy * 128 + (n.val % 8192 + (127 + dx))) % 128 = n.val % 128 + dx - 1 := by omega
  simp only [e, e']
  by_cases hc : 1 ≤ n.val / 128 + dy ∧ n.val / 128 + dy ≤ 128
  · rw [dif_pos (by omega), dif_pos ⟨hc, h1, h2⟩]
    exact congrArg (fun q => x c q _) (Fin.ext (by show 64 * (n.val / 8192) + (n.val % 8192 / 128 + dy + 1) - 2 = n.val / 128 + dy - 1; omega))
  · rw [dif_neg (by omega), dif_neg (fun h => hc h.1)]

/-- The part of a convolution one column shift gives. -/
def colPart (x : Fin 96 → Fin 128 → Fin 128 → ℝ) (W : Fin 96 → Fin 96 → Fin 3 → Fin 3 → ℝ) (o : Fin 96) (h v : ℕ) (dx : Fin 3) : ℝ :=
  ∑ dy : Fin 3, ∑ c : Fin 96, W o c dy dx * Spec.pad (x c) (h + dy) (v + dx)

/-- The convolution is the sum over the column shifts. -/
theorem conv_cols (x : Fin 96 → Fin 128 → Fin 128 → ℝ) (W : Fin 96 → Fin 96 → Fin 3 → Fin 3 → ℝ) (o : Fin 96) (h v : Fin 128) :
    Spec.conv x W o h v = colPart x W o h v 0 + colPart x W o h v 1 + colPart x W o h v 2 := by
  unfold Spec.conv
  rw [Finset.sum_comm, Fin.sum_univ_three]
  rfl

/-- A column shift that leaves the image gives nothing. -/
theorem colPart_out (x : Fin 96 → Fin 128 → Fin 128 → ℝ) (W : Fin 96 → Fin 96 → Fin 3 → Fin 3 → ℝ) (o : Fin 96) (h v : ℕ) (dx : Fin 3)
    (hv : v + dx.val < 1 ∨ 128 < v + dx.val) : colPart x W o h v dx = 0 := by
  unfold colPart
  refine Finset.sum_eq_zero fun dy _ => Finset.sum_eq_zero fun c _ => ?_
  unfold Spec.pad
  rw [dif_neg (by omega), mul_zero]

/-- One block of the stacked weights times the gathered rows: the two images' parts of that column shift. -/
theorem tap_sum (w1 w2 : Fin 96 → Fin 96 → Fin 3 → Fin 3 → ℝ) (x1 x2 : Fin 96 → Fin 128 → Fin 128 → ℝ) (n : Fin 16384) (o : Fin 96) (dx : Fin 3)
    (p : Fin 288) (m : ℕ) (hp : p.val = dx.val * 96 + o.val)
    (h1 : 1 ≤ n.val % 128 + dx.val) (h2 : n.val % 128 + dx.val ≤ 128) (hm : m = n.val % 8192 + (127 + dx.val)) :
    (∑ k, wcat w1 w2 p k * rowsN (slab x1 ⟨n.val / 8192, by omega⟩) (slab x2 ⟨n.val / 8192, by omega⟩) k m)
      = colPart x1 w1 o (n.val / 128) (n.val % 128) dx + colPart x2 w2 o (n.val / 128) (n.val % 128) dx := by
  rw [sum576]
  unfold colPart
  refine congr (congrArg _ ?_) ?_
  · refine Finset.sum_congr rfl fun dy _ => Finset.sum_congr rfl fun c _ => ?_
    rw [wcat_lo w1 w2 _ _ o c dy dx hp rfl, ← row_pad x1 n c dy.val dx.val m dy.isLt dx.isLt h1 h2 hm]
    unfold rowsN
    rw [if_pos (by show dy.val * 96 + c.val < 288; omega)]
    have e1 : (⟨(dy.val * 96 + c.val) % 96, by omega⟩ : Fin 96) = c := Fin.ext (by show (dy.val * 96 + c.val) % 96 = c.val; omega)
    have e2 : (dy.val * 96 + c.val) / 96 % 3 = dy.val := by omega
    simp only [e1, e2]
  · refine Finset.sum_congr rfl fun dy _ => Finset.sum_congr rfl fun c _ => ?_
    rw [wcat_hi w1 w2 _ _ o c dy dx hp rfl, ← row_pad x2 n c dy.val dx.val m dy.isLt dx.isLt h1 h2 hm]
    unfold rowsN
    rw [if_neg (by show ¬ (3 + dy.val) * 96 + c.val < 288; omega)]
    have e1 : (⟨((3 + dy.val) * 96 + c.val) % 96, by omega⟩ : Fin 96) = c := Fin.ext (by show ((3 + dy.val) * 96 + c.val) % 96 = c.val; omega)
    have e2 : ((3 + dy.val) * 96 + c.val) / 96 % 3 = dy.val := by omega
    simp only [e1, e2]

/-- A slab's middle rows are the image's. -/
theorem row_mid (x : Fin 96 → Fin 128 → Fin 128 → ℝ) (n : Fin 16384) (c : Fin 96) :
    rowAt (slab x ⟨n.val / 8192, by omega⟩) c (n.val % 8192 + 256) = x c ⟨n.val / 128, by omega⟩ ⟨n.val % 128, by omega⟩ := by
  unfold rowAt slab
  rw [dif_pos (by omega), dif_pos (by show 2 ≤ 64 * (n.val / 8192) + (n.val % 8192 + 256) / 128 ∧ 64 * (n.val / 8192) + (n.val % 8192 + 256) / 128 < 130; omega)]
  exact congr (congrArg (x c) (Fin.ext (by show 64 * (n.val / 8192) + (n.val % 8192 + 256) / 128 - 2 = n.val / 128; omega)))
    (Fin.ext (by show (n.val % 8192 + 256) % 128 = n.val % 128; omega))

/-- The kernel's fused features are the fused features. -/
theorem feat_link (A : Spec.Args) (b : Fin 4) (n : Fin 16384) (o : Fin 96) :
    convN (wcat (Spec.weff A.w1 A.lm1 A.th1) (Spec.weff A.w2 A.lm2 A.th2)) (slab (A.x1 b) ⟨n.val / 8192, by omega⟩)
        (slab (A.x2 b) ⟨n.val / 8192, by omega⟩) (n.val % 8192) o
      = Spec.feat A b ⟨n.val / 128, by omega⟩ ⟨n.val % 128, by omega⟩ o := by
  unfold convN Spec.feat
  rw [row_mid, row_mid, conv_cols, conv_cols]
  have e : n.val % 8192 % 128 = n.val % 128 := by omega
  rw [e]
  rw [tap_sum _ _ _ _ n o 1 ⟨96 + o.val, by omega⟩ (n.val % 8192 + 128) (by show 96 + o.val = 1 * 96 + o.val; omega)
    (by show 1 ≤ n.val % 128 + 1; omega) (by show n.val % 128 + 1 ≤ 128; omega) (by show _ = n.val % 8192 + (127 + 1); omega)]
  have l : (if n.val % 128 = 0 then 0 else ∑ k, wcat (Spec.weff A.w1 A.lm1 A.th1) (Spec.weff A.w2 A.lm2 A.th2) ⟨o.val, by omega⟩ k
        * rowsN (slab (A.x1 b) ⟨n.val / 8192, by omega⟩) (slab (A.x2 b) ⟨n.val / 8192, by omega⟩) k (n.val % 8192 + 127))
      = colPart (A.x1 b) (Spec.weff A.w1 A.lm1 A.th1) o (n.val / 128) (n.val % 128) 0
        + colPart (A.x2 b) (Spec.weff A.w2 A.lm2 A.th2) o (n.val / 128) (n.val % 128) 0 := by
    split
    · rw [colPart_out _ _ _ _ _ _ (.inl (by show n.val % 128 + 0 < 1; omega)), colPart_out _ _ _ _ _ _ (.inl (by show n.val % 128 + 0 < 1; omega)), add_zero]
    · exact tap_sum _ _ _ _ n o 0 _ _ (by show o.val = 0 * 96 + o.val; omega) (by show 1 ≤ n.val % 128 + 0; omega)
        (by show n.val % 128 + 0 ≤ 128; omega) rfl
  have r : (if n.val % 128 = 127 then 0 else ∑ k, wcat (Spec.weff A.w1 A.lm1 A.th1) (Spec.weff A.w2 A.lm2 A.th2) ⟨192 + o.val, by omega⟩ k
        * rowsN (slab (A.x1 b) ⟨n.val / 8192, by omega⟩) (slab (A.x2 b) ⟨n.val / 8192, by omega⟩) k (n.val % 8192 + 129))
      = colPart (A.x1 b) (Spec.weff A.w1 A.lm1 A.th1) o (n.val / 128) (n.val % 128) 2
        + colPart (A.x2 b) (Spec.weff A.w2 A.lm2 A.th2) o (n.val / 128) (n.val % 128) 2 := by
    split
    · rw [colPart_out _ _ _ _ _ _ (.inr (by show 128 < n.val % 128 + 2; omega)), colPart_out _ _ _ _ _ _ (.inr (by show 128 < n.val % 128 + 2; omega)), add_zero]
    · exact tap_sum _ _ _ _ n o 2 _ _ (by show 192 + o.val = 2 * 96 + o.val; omega) (by show 1 ≤ n.val % 128 + 2; omega)
        (by show n.val % 128 + 2 ≤ 128; omega) rfl
  rw [l, r]
  ring

end Cert.Val
-- ==== Proof.Top.lean ====
/- The largest entries of a finite family of real numbers: the sorted order and repeated maximum agree on their values. -/
module

public import Idealize.ShloMosaic.Lib.SortFacts
public import Mathlib.Data.Real.Basic
public import Mathlib.Tactic.Linarith

@[expose] public section

noncomputable section

namespace Cert.Spec

open Idealize.ShloMosaic

/-- `σ` lists the places of the `k` largest entries of `f`, from the largest down. -/
structure IsTop {n k : ℕ} (f : Fin n → ℝ) (σ : Fin k → Fin n) : Prop where
  inj : Function.Injective σ
  anti : ∀ r s : Fin k, r ≤ s → f (σ s) ≤ f (σ r)
  rest : ∀ p, (∀ r, σ r ≠ p) → ∀ r, f p ≤ f (σ r)

/-- One list's value is at most the other's at the same rank. -/
theorem IsTop.le {n k : ℕ} {f : Fin n → ℝ} {σ τ : Fin k → Fin n} (hσ : IsTop f σ) (hτ : IsTop f τ) (r : Fin k) :
    f (τ r) ≤ f (σ r) := by
  by_contra hlt
  rw [not_le] at hlt
  have hin : ∀ s : Fin (r.val + 1), ∃ q : Fin r.val, σ ⟨q, by omega⟩ = τ ⟨s, by omega⟩ := by
    intro s
    have hs : f (τ r) ≤ f (τ ⟨s, by omega⟩) := hτ.anti _ _ (by show s.val ≤ r.val; omega)
    by_cases h : ∃ q, σ q = τ ⟨s, by omega⟩
    · obtain ⟨q, hq⟩ := h
      have hqr : q.val < r.val := by
        by_contra hge
        have := hσ.anti r q (by show r.val ≤ q.val; omega)
        rw [hq] at this
        linarith
      exact ⟨⟨q, hqr⟩, hq⟩
    · push Not at h
      have := hσ.rest _ h r
      linarith
  choose g hg using hin
  have ginj : Function.Injective g := by
    intro a b hab
    have h1 := hg a
    rw [hab, hg b] at h1
    have := congrArg Fin.val (hτ.inj h1)
    exact Fin.ext this.symm
  have := Fintype.card_le_of_injective g ginj
  simp at this

/-- Two lists of the largest entries' places have the same values. -/
theorem IsTop.eq {n k : ℕ} {f : Fin n → ℝ} {σ τ : Fin k → Fin n} (hσ : IsTop f σ) (hτ : IsTop f τ) (r : Fin k) :
    f (σ r) = f (τ r) := le_antisymm (hτ.le hσ r) (hσ.le hτ r)

/-- The descending stable sort of `f`: which place sorts before which. -/
def desc {n : ℕ} (f : Fin n → ℝ) (a b : Fin n) : Bool := decide (f b < f a)

/-- The `k` largest entries of `f` in descending order: the first `k` of the stable sort. -/
def top {n k : ℕ} (hk : k ≤ n) (f : Fin n → ℝ) (r : Fin k) : ℝ := f (sortedFrom (desc f) (r.castLE hk))

/-- The first `k` places of the sort are the places of the `k` largest. -/
theorem isTop_sortedFrom {n k : ℕ} (hk : k ≤ n) (f : Fin n → ℝ) : IsTop f fun r : Fin k => sortedFrom (desc f) (r.castLE hk) := by
  have hle : ∀ i j : Fin n, i < j → f (sortedFrom (desc f) j) ≤ f (sortedFrom (desc f) i) := by
    intro i j hij
    have := sortedFrom_noInversion (fun a b => decide (f b < f a)) (desc f) (fun a b h => ?_) (fun a b h => ?_) (fun a b c h1 h2 => ?_) i j hij
    · simpa using this
    · have h' : f b < f a := by simpa [desc] using h
      simpa using h'.le
    · exact h
    · have h1' : f a ≤ f b := by simpa using h1
      have h2' : f b ≤ f c := by simpa using h2
      simpa using h1'.trans h2'
  refine ⟨fun a b h => ?_, fun r s hrs => ?_, fun p hp r => ?_⟩
  · have := congrArg Fin.val (sortedFrom_injective _ h)
    exact Fin.ext this
  · rcases eq_or_lt_of_le hrs with rfl | h
    · exact le_rfl
    · exact hle _ _ h
  · obtain ⟨q, rfl⟩ := sortedFrom_surjective (desc f) p
    have hq : k ≤ q.val := by
      by_contra h
      exact hp ⟨q, by omega⟩ rfl
    exact hle _ _ (by show r.val < q.val; omega)

/-- One round of the repeated maximum: the largest entry is at `p`, and it is replaced by minus one. -/
def Round {n : ℕ} (E E' : Fin n → ℝ) (p : Fin n) : Prop := (∀ q, E q ≤ E p) ∧ ∀ q, E' q = if q = p then -1 else E q

/-- The rounds' places of a family without negative entries are the places of the largest entries. -/
theorem isTop_rounds {n k : ℕ} (hk : k ≤ n) (f : Fin n → ℝ) (hf : ∀ p, 0 ≤ f p) (E : ℕ → Fin n → ℝ) (σ : Fin k → Fin n)
    (h0 : E 0 = f) (hr : ∀ r : Fin k, Round (E r) (E (r + 1)) (σ r)) :
    IsTop f σ ∧ ∀ r : Fin k, E r (σ r) = f (σ r) := by
  have state : ∀ r, r ≤ k → ∀ q, E r q = if (∃ s : Fin k, s.val < r ∧ σ s = q) then -1 else f q := by
    intro r
    induction r with
    | zero => intro _ q; rw [h0, if_neg (by rintro ⟨s, hs, _⟩; omega)]
    | succ r ih =>
      intro hrk q
      rw [(hr ⟨r, by omega⟩).2 q, ih (by omega) q]
      by_cases hq : q = σ ⟨r, by omega⟩
      · rw [if_pos hq, if_pos ⟨⟨r, by omega⟩, Nat.lt_succ_self r, hq.symm⟩]
      · rw [if_neg hq]
        refine if_congr ⟨?_, ?_⟩ rfl rfl
        · rintro ⟨s, hs, e⟩; exact ⟨s, by omega, e⟩
        · rintro ⟨s, hs, e⟩
          refine ⟨s, ?_, e⟩
          rcases Nat.lt_succ_iff_lt_or_eq.mp hs with h | h
          · exact h
          · exact absurd (by rw [← e]; exact congrArg σ (Fin.ext h)) hq
  have fresh : ∀ r : Fin k, ¬∃ s : Fin k, s.val < r.val ∧ σ s = σ r := by
    intro r hex
    have hneg : E r (σ r) = -1 := by rw [state r r.isLt.le, if_pos hex]
    -- fewer than `n` places are taken, so one entry is not negative
    have : ∃ q, ¬∃ s : Fin k, s.val < r.val ∧ σ s = q := by
      by_contra hall
      push Not at hall
      choose g hg using hall
      have ginj : Function.Injective fun q => (⟨(g q).val, (hg q).1⟩ : Fin r.val) := by
        intro a b hab
        have hv := congrArg Fin.val hab
        have : g a = g b := Fin.ext hv
        rw [← (hg a).2, ← (hg b).2, this]
      have hc := Fintype.card_le_of_injective _ ginj
      have hr' := r.isLt
      simp only [Fintype.card_fin] at hc
      omega
    obtain ⟨q, hq⟩ := this
    have h1 := (hr r).1 q
    rw [hneg, state r r.isLt.le, if_neg hq] at h1
    have := hf q
    linarith
  have val : ∀ r : Fin k, E r (σ r) = f (σ r) := fun r => by rw [state r r.isLt.le, if_neg (fresh r)]
  have below : ∀ (r : Fin k) q, (∀ s : Fin k, s.val < r.val → σ s ≠ q) → f q ≤ f (σ r) := by
    intro r q hq
    have h1 := (hr r).1 q
    rw [val r, state r r.isLt.le, if_neg (by rintro ⟨s, hs, e⟩; exact hq s hs e)] at h1
    exact h1
  have inj : Function.Injective σ := by
    intro a b hab
    rcases lt_trichotomy a.val b.val with h | h | h
    · exact absurd ⟨a, h, hab⟩ (fresh b)
    · exact Fin.ext h
    · exact absurd ⟨b, h, hab.symm⟩ (fresh a)
  refine ⟨⟨inj, fun r s hrs => below r _ fun t ht e => ?_, fun p hp r => below r p fun s _ => hp s⟩, val⟩
  have := congrArg Fin.val (inj e)
  have : r.val ≤ s.val := hrs
  omega

/-- So each round's maximum is the sort's entry. -/
theorem rounds_eq_top {n k : ℕ} (hk : k ≤ n) (f : Fin n → ℝ) (hf : ∀ p, 0 ≤ f p) (E : ℕ → Fin n → ℝ) (σ : Fin k → Fin n)
    (h0 : E 0 = f) (hr : ∀ r : Fin k, Round (E r) (E (r + 1)) (σ r)) (r : Fin k) : E r (σ r) = top hk f r := by
  obtain ⟨h, hv⟩ := isTop_rounds hk f hf E σ h0 hr
  rw [hv r]
  exact h.eq (isTop_sortedFrom hk f) r

end Cert.Spec
-- ==== Proof.SpecOut.lean ====
/- The gate of the energies and the two results, on real arrays. -/
module

public import proofs.«01_k».proof.Proof.Spec
public import proofs.«01_k».proof.Proof.Top

@[expose] public section

noncomputable section

namespace Cert.Spec

open scoped BigOperators

variable (A : Args)

/-- An energy is not negative. -/
theorem energy_nonneg (b : Fin 4) (i j : Fin 128) : 0 ≤ energy A b i j :=
  div_nonneg (Finset.sum_nonneg fun _ _ => abs_nonneg _) (by norm_num)

/-- The energies of an image in a line. -/
def line (b : Fin 4) (p : Fin 16384) : ℝ := energy A b ⟨p.val / 128, by omega⟩ ⟨p.val % 128, by omega⟩

/-- The gate: the ninety-six largest energies through two dense layers and the logistic function. -/
def att (b : Fin 4) : ℝ :=
  (1 + Real.exp (-((∑ x : Fin 24, max ((∑ y : Fin 96, top (k := 96) (by norm_num) (line A b) y * A.f1 x y) + A.fb1 x) 0 * A.f2 0 x) + A.fb2 0)))⁻¹

/-- The first result. -/
def out1 (b : Fin 4) (o : Fin 96) (h v : Fin 128) : ℝ := A.x1 b o h v + cross A b o h v * (1 + att A b)

/-- The second result. -/
def out2 (b : Fin 4) (o : Fin 96) (h v : Fin 128) : ℝ := A.x2 b o h v + cross A b o h v * (1 + att A b)

end Cert.Spec
-- ==== Proof.Region0Out.lean ====
/- The convolution kernel: its whole result, over the reals. -/
module

public import proofs.«01_k».proof.Proof.Chunk
public import proofs.«01_k».proof.Proof.Gen.KernelIdeal.Frame
public import Idealize.ShloMosaic.Lib.Pipeline.ValueKit
public import proofs.«01_k».proof.Proof.Region0
public import Idealize.ShloMosaic.Lib.Pipeline.CanonAppend
@[expose] public section
set_option maxRecDepth 16384
noncomputable section
namespace Cert.Val
open Idealize.ShloMosaic Idealize.ShloMosaic.TcCoe Idealize.ShloMosaic.Tactic Idealize.SL Cert.KernelIdeal Cert.KernelIdeal.Gen
open scoped BigOperators
variable (V : (c : Dev nD) → (b : Ref sig .tc) → Buf (Elt Ideal) ((c : Thread nD τ).loc b))

set_option maxHeartbeats 1000000 in
/-- The blocks of the weights and of the tiles, the same at every grid point: each is its whole array. -/
theorem consts0 (c : Dev nD) (t : Fin cfg0.N) (W : Fin 288 → Fin 576 → ℝ) (W3 : Fin 96 → Fin 96 → ℝ)
    (C4 G5 B6 G7 B8 : Fin 96 → ℝ) (W9 : Fin 384 → Fin 96 → ℝ) (C10 : Fin 384 → ℝ) (W11 : Fin 96 → Fin 384 → ℝ) (C12 : Fin 96 → ℝ)
    (h2 : V c main_v65 = up2 W) (h3 : V c main_v68 = up2 W3)
    (h4 : V c main_v72 = up2 (fun k (_ : Fin 2048) => C4 k)) (h5 : V c main_v74 = up2 (fun k (_ : Fin 2048) => G5 k))
    (h6 : V c main_v76 = up2 (fun k (_ : Fin 2048) => B6 k)) (h7 : V c main_v78 = up2 (fun k (_ : Fin 2048) => G7 k))
    (h8 : V c main_v80 = up2 (fun k (_ : Fin 2048) => B8 k)) (h9 : V c main_arg16 = up2 W9)
    (h10 : V c main_v82 = up2 (fun k (_ : Fin 2048) => C10 k)) (h11 : V c main_arg18 = up2 W11)
    (h12 : V c main_v84 = up2 (fun k (_ : Fin 2048) => C12 k)) :
    iblk0 V c 2 t = up2 W ∧ iblk0 V c 3 t = up2 W3 ∧ iblk0 V c 4 t = up2 (fun k (_ : Fin 2048) => C4 k)
    ∧ iblk0 V c 5 t = up2 (fun k (_ : Fin 2048) => G5 k) ∧ iblk0 V c 6 t = up2 (fun k (_ : Fin 2048) => B6 k)
    ∧ iblk0 V c 7 t = up2 (fun k (_ : Fin 2048) => G7 k) ∧ iblk0 V c 8 t = up2 (fun k (_ : Fin 2048) => B8 k)
    ∧ iblk0 V c 9 t = up2 W9 ∧ iblk0 V c 10 t = up2 (fun k (_ : Fin 2048) => C10 k) ∧ iblk0 V c 11 t = up2 W11
    ∧ iblk0 V c 12 t = up2 (fun k (_ : Fin 2048) => C12 k) := by
  rw [← h2, ← h3, ← h4, ← h5, ← h6, ← h7, ← h8, ← h9, ← h10, ← h11, ← h12]
  clear h2 h3 h4 h5 h6 h7 h8 h9 h10 h11 h12
  have e2 : win0_2.index t = ![0, 0] := rfl
  have e3 : win0_3.index t = ![0, 0] := rfl
  have e4 : win0_4.index t = ![0, 0] := rfl
  have e5 : win0_5.index t = ![0, 0] := rfl
  have e6 : win0_6.index t = ![0, 0] := rfl
  have e7 : win0_7.index t = ![0, 0] := rfl
  have e8 : win0_8.index t = ![0, 0] := rfl
  have e9 : win0_9.index t = ![0, 0] := rfl
  have e10 : win0_10.index t = ![0, 0] := rfl
  have e11 : win0_11.index t = ![0, 0] := rfl
  have e12 : win0_12.index t = ![0, 0] := rfl
  refine ⟨?_, ?_, ?_, ?_, ?_, ?_, ?_, ?_, ?_, ?_, ?_⟩ <;>
    (refine funext fun y => ?_
     blk_simp [iblk0]
     refine congrArg (V c _) ?_
     blk_ext [e2, e3, e4, e5, e6, e7, e8, e9, e10, e11, e12])

/-- The whole result of the convolution kernel: each slab's block in its place. -/
theorem region0 (c : Dev nD) (X1 X2 : Fin 4 → Fin 2 → Fin 96 → Fin 8704 → ℝ) (W : Fin 288 → Fin 576 → ℝ) (W3 : Fin 96 → Fin 96 → ℝ)
    (C4 G5 B6 G7 B8 : Fin 96 → ℝ) (W9 : Fin 384 → Fin 96 → ℝ) (C10 : Fin 384 → ℝ) (W11 : Fin 96 → Fin 384 → ℝ) (C12 : Fin 96 → ℝ)
    (h0 : V c main_v91 = up4 X1) (h1 : V c main_v98 = up4 X2) (h2 : V c main_v65 = up2 W) (h3 : V c main_v68 = up2 W3)
    (h4 : V c main_v72 = up2 (fun k (_ : Fin 2048) => C4 k)) (h5 : V c main_v74 = up2 (fun k (_ : Fin 2048) => G5 k))
    (h6 : V c main_v76 = up2 (fun k (_ : Fin 2048) => B6 k)) (h7 : V c main_v78 = up2 (fun k (_ : Fin 2048) => G7 k))
    (h8 : V c main_v80 = up2 (fun k (_ : Fin 2048) => B8 k)) (h9 : V c main_arg16 = up2 W9)
    (h10 : V c main_v82 = up2 (fun k (_ : Fin 2048) => C10 k)) (h11 : V c main_arg18 = up2 W11)
    (h12 : V c main_v84 = up2 (fun k (_ : Fin 2048) => C12 k)) :
    (dat0 V c).arrAt 13 cfg0.N = (up3 (fun b o n => outN W (X1 b ⟨n / 8192, by omega⟩) (X2 b ⟨n / 8192, by omega⟩) W3 C4 G5 B6 G7 B8 W9 C10 W11 C12
      (n % 8192) o) : FVec Ideal S4x96x16384 .f32) := by
  have e0 : ∀ t : Fin cfg0.N, win0_0.index t = ![t.val / 2, t.val % 2, 0, 0] := (by decide +kernel : ∀ t : Fin grid0.N, _)
  have e1 : ∀ t : Fin cfg0.N, win0_1.index t = ![t.val / 2, t.val % 2, 0, 0] := (by decide +kernel : ∀ t : Fin grid0.N, _)
  have e13 : ∀ t : Fin cfg0.N, win0_13.index t = ![t.val / 2, 0, t.val % 2] := (by decide +kernel : ∀ t : Fin grid0.N, _)
  refine (dat0 V c).arrAt_eq_of_covers 13 _ (by decide +kernel) fun t hf y => ?_
  have ht : t.val < 8 := t.isLt
  obtain ⟨k2, k3, k4, k5, k6, k7, k8, k9, k10, k11, k12⟩ := consts0 V c t W W3 C4 G5 B6 G7 B8 W9 C10 W11 C12 h2 h3 h4 h5 h6 h7 h8 h9 h10 h11 h12
  clear h2 h3 h4 h5 h6 h7 h8 h9 h10 h11 h12
  blk_simp
  rw [after0_13]
  refine (out0_eq V c t W (X1 ⟨t.val / 2, by omega⟩ ⟨t.val % 2, by omega⟩) (X2 ⟨t.val / 2, by omega⟩ ⟨t.val % 2, by omega⟩) W3 C4 G5 B6 G7 B8 W9 C10 W11 C12
    ?_ ?_ ?_ ?_ ?_ ?_ ?_ ?_ ?_ ?_ ?_ ?_ ?_ y).trans ?_
  · intro c' m
    blk_simp [iblk0]
    rw [h0]
    refine (congrArg (up4 X1) (?_ : _ = ix4 ⟨t.val / 2, by omega⟩ ⟨t.val % 2, by omega⟩ c' m)).trans rfl
    blk_ext [e0]
  · intro c' m
    blk_simp [iblk0]
    rw [h1]
    refine (congrArg (up4 X2) (?_ : _ = ix4 ⟨t.val / 2, by omega⟩ ⟨t.val % 2, by omega⟩ c' m)).trans rfl
    blk_ext [e1]
  · exact k2
  · exact k3
  · exact k4
  · exact k5
  · exact k6
  · exact k7
  · exact k8
  · exact k9
  · exact k10
  · exact k11
  · exact k12
  · have hy1 : (y 1).val < 96 := (y 1).isLt
    have hy2 : (y 2).val < 8192 := (y 2).isLt
    refine Eq.trans ?_ (congrArg (up3 _) (?_ : ix3 ⟨t.val / 2, by omega⟩ ⟨(y 1).val, by omega⟩ ⟨t.val % 2 * 8192 + (y 2).val, by omega⟩ = _))
    · rw [up3_ix]
      have q1 : (t.val % 2 * 8192 + (y 2).val) / 8192 = t.val % 2 := by omega
      have q2 : (t.val % 2 * 8192 + (y 2).val) % 8192 = (y 2).val := by omega
      simp only [q1, q2]
      rfl
    · blk_ext [e13]

end Cert.Val
-- ==== Proof.Region1.lean ====
/- The cosine transform kernel: its whole result, over the reals. -/
module

public import proofs.«01_k».proof.Proof.Chunk
public import proofs.«01_k».proof.Proof.Gen.KernelIdeal.Frame
public import Idealize.ShloMosaic.Lib.Pipeline.ValueKit
public import Idealize.ShloMosaic.Lib.Pipeline.CanonAppend
@[expose] public section
set_option maxRecDepth 16384
noncomputable section
namespace Cert.Val
open Idealize.ShloMosaic Idealize.ShloMosaic.TcCoe Idealize.ShloMosaic.Tactic Idealize.SL Cert.KernelIdeal Cert.KernelIdeal.Gen
open scoped BigOperators

/-- The products of eight channels' rows with a matrix, at a row of the stacked channels and a column. -/
theorem k1_pay2_at (u : Vec Ideal S1x8x128x128 .f32) (X : Fin 8 → Fin 128 → Fin 128 → ℝ) (D : Fin 128 → Fin 128 → ℝ)
    (h : ∀ g i j, u (ix4 0 g i j) = ((X g i j : ℝ) : EReal)) (i : Fin 1024) (j : Fin 128) :
    k1_pay2 u (up2 D) (ix2 i j) = ((∑ v, X ⟨i / 128, by omega⟩ ⟨i % 128, by omega⟩ v * D v j : ℝ) : EReal) := by
  unfold k1_pay2
  pointwise
  simp only [h, up2_ix, ← EReal.coe_mul, coe_sum]

/-- The scratch matrix: the channels' products side by side. -/
def sideZ (X : Fin 8 → Fin 128 → Fin 128 → ℝ) (D : Fin 128 → Fin 128 → ℝ) (i : Fin 128) (m : Fin 1024) : ℝ :=
  ∑ v, X ⟨m / 128, by omega⟩ i v * D v ⟨m % 128, by omega⟩

/-- Each of the eight stores writes one channel's columns of it. -/
theorem side_piece (u : Vec Ideal S1x8x128x128 .f32) (X : Fin 8 → Fin 128 → Fin 128 → ℝ) (D : Fin 128 → Fin 128 → ℝ)
    (h : ∀ g i j, u (ix4 0 g i j) = ((X g i j : ℝ) : EReal)) (q : ℕ) (hq : q < 8) (P : FVec Ideal S128x128 .f32)
    (hP : ∀ i j : Fin 128, P (ix2 i j) = k1_pay2 u (up2 D) (ix2 ⟨128 * q + i, by omega⟩ j)) (inb)
    (x : (Rect.unit (s := S128x1024) ![0, 128 * q] ![128, 128] inb).shape.Idx) :
    P x = (up2 (sideZ X D) : FVec Ideal S128x1024 .f32) ((Rect.unit (s := S128x1024) ![0, 128 * q] ![128, 128] inb).emb x) := by
  have hx : (x : S128x128.Idx) = ix2 (x 0) (x 1) := eq_ix2 (x : S128x128.Idx)
  have h0 : (x 0).val < 128 := (x 0).isLt
  have h1 : (x 1).val < 128 := (x 1).isLt
  have e0 : ((Rect.unit (s := S128x1024) ![0, 128 * q] ![128, 128] inb).emb x 0).val = (x 0).val :=
    (Rect.idx_unit_val (s := S128x1024) ![0, 128 * q] ![128, 128] inb x 0).trans (Nat.zero_add _)
  have e1 : ((Rect.unit (s := S128x1024) ![0, 128 * q] ![128, 128] inb).emb x 1).val = 128 * q + (x 1).val :=
    Rect.idx_unit_val (s := S128x1024) ![0, 128 * q] ![128, 128] inb x 1
  refine (congrArg P hx).trans ((hP (x 0) (x 1)).trans ((k1_pay2_at u X D h _ _).trans ?_))
  have q0 : (128 * q + (x 0).val) / 128 = q := by omega
  have q1 : (128 * q + (x 0).val) % 128 = (x 0).val := by omega
  have q2 : (128 * q + (x 1).val) / 128 = q := by omega
  have q3 : (128 * q + (x 1).val) % 128 = (x 1).val := by omega
  unfold up2 sideZ
  simp only [e0, e1, q0, q1, q2, q3]
  have r0 : (Rect.unit (s := S128x1024) ![0, 128 * q] ![128, 128] inb).emb x 0 = x 0 := Fin.ext e0
  rw [r0]
  rfl

/-- The scratch buffer after the eight stores. -/
theorem side_eq (u : Vec Ideal S1x8x128x128 .f32) (X : Fin 8 → Fin 128 → Fin 128 → ℝ) (D : Fin 128 → Fin 128 → ℝ)
    (h : ∀ g i j, u (ix4 0 g i j) = ((X g i j : ℝ) : EReal)) :
    (View.whole cc1_scratch0).readCov (Val := Elt Ideal)
        [⟨Rect.unit ![0, 896] ![128, 128] inb_S128x1024_S128x128_0_896, k1_pay11 (k1_pay2 u (up2 D))⟩,
          ⟨Rect.unit ![0, 768] ![128, 128] inb_S128x1024_S128x128_0_768, k1_pay10 (k1_pay2 u (up2 D))⟩,
          ⟨Rect.unit ![0, 640] ![128, 128] inb_S128x1024_S128x128_0_640, k1_pay9 (k1_pay8 u (up2 D))⟩,
          ⟨Rect.unit ![0, 512] ![128, 128] inb_S128x1024_S128x128_0_512, k1_pay7 u (up2 D)⟩,
          ⟨Rect.unit ![0, 384] ![128, 128] inb_S128x1024_S128x128_0_384, k1_pay6 u (up2 D)⟩,
          ⟨Rect.unit ![0, 256] ![128, 128] inb_S128x1024_S128x128_0_256, k1_pay5 u (up2 D)⟩,
          ⟨Rect.unit ![0, 128] ![128, 128] inb_S128x1024_S128x128_0_128, k1_pay4 u (up2 D)⟩,
          ⟨Rect.unit ![0, 0] ![128, 128] inb_S128x1024_S128x128_0_0, k1_pay3 u (up2 D)⟩]
        (Rect.unit ![0, 0] ![128, 1024] inb_S128x1024_S128x1024_0_0).toLoadRect
      = up2 (sideZ X D) := by
  refine eq_up2 _ _ fun k l => ?_
  rw [View.readCov_eq_canon']
  have hi : (Rect.unit (s := S128x1024) ![0, 0] ![128, 1024] inb_S128x1024_S128x1024_0_0).toLoadRect.idx (ix2 k l) = (ix2 k l : S128x1024.Idx) := by
    funext a
    apply Fin.ext
    refine (Rect.idx_unit_val (s := S128x1024) ![0, 0] ![128, 1024] inb_S128x1024_S128x1024_0_0 (ix2 k l) a).trans ?_
    fin_cases a <;> exact Nat.zero_add _
  refine (congrArg (View.canon _) hi).trans ?_
  refine (View.canon_append_of_pieces (up2 (sideZ X D) : FVec Ideal S128x1024 .f32) [] [_, _, _, _, _, _, _, _] ?_ (ix2 k l) ?_).trans rfl
  · intro p hp x
    simp only [List.mem_cons, List.not_mem_nil, or_false] at hp
    rcases hp with rfl | rfl | rfl | rfl | rfl | rfl | rfl | rfl
    · exact side_piece u X D h 7 (by omega) _ (fun i j => by unfold k1_pay11; pointwise) inb_S128x1024_S128x128_0_896 x
    · exact side_piece u X D h 6 (by omega) _ (fun i j => by unfold k1_pay10; pointwise) inb_S128x1024_S128x128_0_768 x
    · exact side_piece u X D h 5 (by omega) _ (fun i j => by unfold k1_pay9 k1_pay8; pointwise) inb_S128x1024_S128x128_0_640 x
    · exact side_piece u X D h 4 (by omega) _ (fun i j => by unfold k1_pay7; pointwise) inb_S128x1024_S128x128_0_512 x
    · exact side_piece u X D h 3 (by omega) _ (fun i j => by unfold k1_pay6; pointwise) inb_S128x1024_S128x128_0_384 x
    · exact side_piece u X D h 2 (by omega) _ (fun i j => by unfold k1_pay5; pointwise) inb_S128x1024_S128x128_0_256 x
    · exact side_piece u X D h 1 (by omega) _ (fun i j => by unfold k1_pay4; pointwise) inb_S128x1024_S128x128_0_128 x
    · exact side_piece u X D h 0 (by omega) _ (fun i j => by unfold k1_pay3; pointwise) inb_S128x1024_S128x128_0_0 x
  · have hk := k.isLt
    have hl := l.isLt
    have hm : ∀ (q : ℕ) (inb), l.val / 128 = q → (ix2 k l : S128x1024.Idx) ∈ (Rect.unit (s := S128x1024) ![0, 128 * q] ![128, 128] inb).set := by
      intro q inb e
      rw [Rect.mem_set_unit]
      intro a
      fin_cases a
      · show 0 ≤ k.val ∧ k.val < 0 + 128; omega
      · show 128 * q ≤ l.val ∧ l.val < 128 * q + 128; omega
    have hq : l.val / 128 < 8 := by omega
    generalize hqe : l.val / 128 = q at hq
    interval_cases q
    · exact ⟨_, List.Mem.tail _ (List.Mem.tail _ (List.Mem.tail _ (List.Mem.tail _ (List.Mem.tail _ (List.Mem.tail _ (List.Mem.tail _ (List.Mem.head _))))))), hm 0 inb_S128x1024_S128x128_0_0 hqe⟩
    · exact ⟨_, List.Mem.tail _ (List.Mem.tail _ (List.Mem.tail _ (List.Mem.tail _ (List.Mem.tail _ (List.Mem.tail _ (List.Mem.head _)))))), hm 1 inb_S128x1024_S128x128_0_128 hqe⟩
    · exact ⟨_, List.Mem.tail _ (List.Mem.tail _ (List.Mem.tail _ (List.Mem.tail _ (List.Mem.tail _ (List.Mem.head _))))), hm 2 inb_S128x1024_S128x128_0_256 hqe⟩
    · exact ⟨_, List.Mem.tail _ (List.Mem.tail _ (List.Mem.tail _ (List.Mem.tail _ (List.Mem.head _)))), hm 3 inb_S128x1024_S128x128_0_384 hqe⟩
    · exact ⟨_, List.Mem.tail _ (List.Mem.tail _ (List.Mem.tail _ (List.Mem.head _))), hm 4 inb_S128x1024_S128x128_0_512 hqe⟩
    · exact ⟨_, List.Mem.tail _ (List.Mem.tail _ (List.Mem.head _)), hm 5 inb_S128x1024_S128x128_0_640 hqe⟩
    · exact ⟨_, List.Mem.tail _ (List.Mem.head _), hm 6 inb_S128x1024_S128x128_0_768 hqe⟩
    · exact ⟨_, List.Mem.head _, hm 7 inb_S128x1024_S128x128_0_896 hqe⟩

/-- The absolute value of a scalar that is a real number. -/
theorem absf_coe (x : ℝ) : FloatOps.absf (F := Ideal) (φ := .f32) (x : EReal) = ((|x| : ℝ) : EReal) := by
  rw [Ideal.absf_def]; exact abs_coe x

/-- The accumulating store: what was there and the eight channels' absolute values. -/
theorem k1_pay12_at (X : Fin 8 → Fin 128 → Fin 128 → ℝ) (D H : Fin 128 → Fin 128 → ℝ) (e : Vec Ideal S1x128x128 .f32) (i j : Fin 128) :
    k1_pay12 (up2 H) (up2 (sideZ X D)) e (ix3 0 i j)
      = e (ix3 0 i j) + ((∑ g : Fin 8, |∑ h, H i h * ∑ v, X g h v * D v j| : ℝ) : EReal) := by
  have key : ∀ (q : ℕ) (hq : q < 8) (m : Fin 1024), m.val = 128 * q + j.val →
      (∑ x, (up2 H : FVec Ideal S128x128 .f32) (ix2 i x) * (up2 (sideZ X D) : FVec Ideal S128x1024 .f32) (ix2 x m))
        = ((∑ h, H i h * ∑ v, X ⟨q, hq⟩ h v * D v j : ℝ) : EReal) := by
    intro q hq m hm
    simp only [up2_ix, ← EReal.coe_mul, coe_sum]
    have q2 : m.val / 128 = q := by omega
    have q3 : m.val % 128 = j.val := by omega
    unfold sideZ
    simp only [q2, q3]
  unfold k1_pay12
  pointwise
  rw [key 0 (by omega) _ (by simp), key 1 (by omega) _ rfl, key 2 (by omega) _ rfl, key 3 (by omega) _ rfl, key 4 (by omega) _ rfl,
    key 5 (by omega) _ rfl, key 6 (by omega) _ rfl, key 7 (by omega) _ rfl]
  simp only [absf_coe, ← EReal.coe_add]
  rw [Fin.sum_univ_eight]
  rfl

variable (V : (c : Dev nD) → (b : Ref sig .tc) → Buf (Elt Ideal) ((c : Thread nD τ).loc b))

/-- What one grid point adds at a pixel: eight channels' absolute transforms. -/
def cosTerm (X : Fin 4 → Fin 96 → Fin 128 → Fin 128 → ℝ) (D H : Fin 128 → Fin 128 → ℝ) (i j : Fin 128) (b k : ℕ) : ℝ :=
  ∑ g : Fin 8, |∑ h, H i h * ∑ v, X ⟨b % 4, by omega⟩ ⟨(8 * k + g) % 96, by omega⟩ h v * D v j|

/-- The accumulated block after a grid point: the sum of the terms of its image's points so far. -/
theorem out1_eq (c : Dev nD) (X : Fin 4 → Fin 96 → Fin 128 → Fin 128 → ℝ) (D H : Fin 128 → Fin 128 → ℝ)
    (h0 : V c main_v100 = up4 X) (h1 : V c main_v101 = up2 D) (h2 : V c main_v103 = up2 H) (t : Fin cfg1.N) (i j : Fin 128) :
    outsAt1 V c t.val t.isLt (ix3 0 i j) = ((∑ k ∈ Finset.range (t.val % 12 + 1), cosTerm X D H i j (t.val / 12) k : ℝ) : EReal) := by
  have e0 : ∀ t : Fin cfg1.N, win1_0.index t = ![t.val / 12, t.val % 12, 0, 0] := (by decide +kernel : ∀ t : Fin grid1.N, _)
  have e1 : ∀ t : Fin cfg1.N, win1_1.index t = ![0, 0] := fun _ => rfl
  have e2 : ∀ t : Fin cfg1.N, win1_2.index t = ![0, 0] := fun _ => rfl
  have a1 : ∀ t : Fin cfg1.N, iblk1 V c 1 t = up2 D := fun t => by
    rw [← h1]
    refine funext fun y => ?_
    blk_simp [iblk1]
    refine congrArg (V c _) ?_
    blk_ext [e1]
  have a2 : ∀ t : Fin cfg1.N, iblk1 V c 2 t = up2 H := fun t => by
    rw [← h2]
    refine funext fun y => ?_
    blk_simp [iblk1]
    refine congrArg (V c _) ?_
    blk_ext [e2]
  have a0 : ∀ (t : Fin cfg1.N) (g : Fin 8) (p q : Fin 128), (iblk1 V c 0 t : Vec Ideal S1x8x128x128 .f32) (ix4 0 g p q)
      = ((X ⟨t.val / 12 % 4, by omega⟩ ⟨(8 * (t.val % 12) + g) % 96, by omega⟩ p q : ℝ) : EReal) := fun t g p q => by
    have ht : t.val < 48 := t.isLt
    blk_simp [iblk1]
    rw [h0]
    refine (congrArg (up4 X) (?_ : _ = ix4 ⟨t.val / 12 % 4, by omega⟩ ⟨(8 * (t.val % 12) + g) % 96, by omega⟩ p q)).trans rfl
    have w0 : t.val / 12 % 4 = t.val / 12 := by omega
    have w1 : (8 * (t.val % 12) + g.val) % 96 = 8 * (t.val % 12) + g.val := by omega
    simp only [w0, w1]
    blk_ext [e0]
  clear h0 h1 h2 e0 e1 e2
  have main := Pipeline.eq_sum_of_reset_step_divmod (N := cfg1.N) (fun n hn => (outsAt1 V c n hn (ix3 0 i j) : EReal)) 12 0
    (fun b k => ((cosTerm X D H i j b k : ℝ) : EReal)) ?_ ?_ t
  · refine main.trans ?_
    rw [zero_add, coe_sum]
  · intro t ht
    show outsAt1 V c t.val t.isLt (ix3 0 i j) = _
    rw [outsAt1_A V c t ht]
    unfold out1_A_3
    frame_out
    have b0 := a0 t
    rw [a1 t, a2 t]
    generalize (iblk1 V c 0 t : Vec Ideal S1x8x128x128 .f32) = u at *
    rw [side_eq u _ D b0]
    refine (k1_pay12_at _ D H _ i j).trans ?_
    unfold k1_pay1
    pointwise
    rfl
  · intro t ht
    show outsAt1 V c t.val t.isLt (ix3 0 i j) = _
    rw [outsAt1_B V c t ht]
    unfold out1_B_3
    frame_out
    have b0 := a0 t
    rw [a1 t, a2 t]
    generalize (iblk1 V c 0 t : Vec Ideal S1x8x128x128 .f32) = u at *
    rw [side_eq u _ D b0]
    exact k1_pay12_at _ D H _ i j

/-- Twelve points of eight channels are the ninety-six channels. -/
theorem cosTerm_sum (X : Fin 4 → Fin 96 → Fin 128 → Fin 128 → ℝ) (D H : Fin 128 → Fin 128 → ℝ) (i j : Fin 128) (b : Fin 4) :
    ∑ k ∈ Finset.range 12, cosTerm X D H i j b k = ∑ c : Fin 96, |∑ h, H i h * ∑ v, X b c h v * D v j| := by
  have hb : (⟨b.val % 4, by omega⟩ : Fin 4) = b := Fin.ext (by have := b.isLt; show b.val % 4 = b.val; omega)
  rw [Finset.sum_range]
  unfold cosTerm
  rw [hb, ← Fintype.sum_prod_type']
  refine Fintype.sum_equiv (finProdFinEquiv (m := 12) (n := 8)) _ _ fun p => ?_
  have : (⟨(8 * p.1.val + p.2.val) % 96, by omega⟩ : Fin 96) = finProdFinEquiv p := by
    apply Fin.ext
    have h1 := p.1.isLt
    have h2 := p.2.isLt
    show (8 * p.1.val + p.2.val) % 96 = p.2.val + 8 * p.1.val
    omega
  rw [this]

/-- The whole result of the cosine transform kernel. -/
theorem region1 (c : Dev nD) (X : Fin 4 → Fin 96 → Fin 128 → Fin 128 → ℝ) (D H : Fin 128 → Fin 128 → ℝ)
    (h0 : V c main_v100 = up4 X) (h1 : V c main_v101 = up2 D) (h2 : V c main_v103 = up2 H) :
    (dat1 V c).arrAt 3 cfg1.N = (up3 (fun b i j => ∑ c : Fin 96, |∑ h, H i h * ∑ v, X b c h v * D v j|) : FVec Ideal S4x128x128 .f32) := by
  have e3 : ∀ t : Fin cfg1.N, win1_3.index t = ![t.val / 12, 0, 0] := (by decide +kernel : ∀ t : Fin grid1.N, _)
  refine (dat1 V c).arrAt_eq_of_covers 3 _ (by decide +kernel) fun t hf y => ?_
  have ht : t.val < 48 := t.isLt
  have h11 : t.val % 12 = 11 := (flush1_3 t).mp hf
  have hy : y = ix3 0 (y 1) (y 2) := by
    refine (eq_ix3 y).trans ?_
    have : y 0 = (0 : Fin 1) := Subsingleton.elim (α := Fin 1) _ _
    exact congrArg (fun a => ix3 a (y 1) (y 2)) this
  have key := out1_eq V c X D H h0 h1 h2 t (y 1) (y 2)
  rw [h11] at key
  have key2 := cosTerm_sum X D H (y 1) (y 2) ⟨t.val / 12, by omega⟩
  rw [key2] at key
  clear h0 h1 h2 key2
  blk_simp
  rw [after1_3]
  refine (congrArg _ hy).trans (key.trans ?_)
  refine Eq.trans ?_ (congrArg (up3 _) (?_ : ix3 ⟨t.val / 12, by omega⟩ (y 1) (y 2) = _))
  · rfl
  · blk_ext [e3]

end Cert.Val
-- ==== Proof.Rounds.lean ====
/- The repeated maximum of the top-k kernel, over the reals. -/
module

public import proofs.«01_k».proof.Proof.Chunk
public import proofs.«01_k».proof.Proof.Top
public import proofs.«01_k».proof.Proof.Gen.KernelIdeal.Frame
public import Idealize.ShloMosaic.Lib.Pipeline.ValueKit
@[expose] public section
set_option maxRecDepth 16384
noncomputable section
namespace Cert.Val
open Idealize.ShloMosaic Idealize.ShloMosaic.TcCoe Idealize.ShloMosaic.Tactic Idealize.SL Cert.KernelIdeal Cert.KernelIdeal.Gen
open scoped BigOperators

/-- A fold by signed minimum is at most its start and every entry, and is one of them. -/
theorem fold_minsi {ι : Type*} [DecidableEq ι] (b : BitVec 32) (f : ι → BitVec 32) (s : Finset ι) :
    (∀ x ∈ s, (Finset.fold IntOp.minsi b f s).toInt ≤ (f x).toInt)
      ∧ (Finset.fold IntOp.minsi b f s = b ∨ ∃ x ∈ s, Finset.fold IntOp.minsi b f s = f x) := by
  induction s using Finset.induction_on with
  | empty => exact ⟨by simp, Or.inl Finset.fold_empty⟩
  | insert a s ha ih =>
    rw [Finset.fold_insert ha]
    obtain ⟨ih2, ih3⟩ := ih
    generalize Finset.fold IntOp.minsi b f s = w at *
    have hm : IntOp.minsi (f a) w = if (f a).toInt < w.toInt then f a else w := by
      unfold IntOp.minsi
      by_cases h : (f a).toInt < w.toInt
      · rw [if_pos h, if_pos (by simpa [BitVec.slt] using h)]
      · rw [if_neg h, if_neg (by simpa [BitVec.slt] using h)]
    rw [hm]
    split_ifs with h
    · refine ⟨fun x hx => ?_, Or.inr ⟨a, Finset.mem_insert_self _ _, rfl⟩⟩
      rcases Finset.mem_insert.1 hx with rfl | hx
      · exact le_rfl
      · exact h.le.trans (ih2 x hx)
    · refine ⟨fun x hx => ?_, ?_⟩
      · rcases Finset.mem_insert.1 hx with rfl | hx
        · exact not_lt.1 h
        · exact ih2 x hx
      · rcases ih3 with h3 | ⟨x, hx, h3⟩
        · exact Or.inl h3
        · exact Or.inr ⟨x, Finset.mem_insert_of_mem hx, h3⟩

/-- The word of a place in a block of 128 rows and columns. -/
theorem place_word (i j : Fin 128) :
    IntOp.addi (IntOp.muli (BitVec.ofNat 32 i) 128#32) (BitVec.ofNat 32 j) = BitVec.ofNat 32 (128 * i + j) := by
  unfold IntOp.addi IntOp.muli
  rw [show (128#32 : BitVec 32) = BitVec.ofNat 32 128 from rfl, ← BitVec.ofNat_mul, ← BitVec.ofNat_add, Nat.mul_comm]

/-- A small word's signed value. -/
theorem toInt_small (n : ℕ) (h : n ≤ 16384) : (BitVec.ofNat 32 n).toInt = n := by
  rw [BitVec.toInt_eq_toNat_of_lt (by rw [BitVec.toNat_ofNat]; omega), BitVec.toNat_ofNat]
  congr 1
  omega

/-- The pattern of minus infinity. -/
theorem ofBits_bot : Ideal.ofBits .f32 0xFF800000#32 = ⊥ := by
  simp [Ideal.ofBits, Ideal.ieee]

/-- The block of a family over its places, row by row. -/
def blockOf (E : Fin 16384 → ℝ) : FVec Ideal S128x128 .f32 := up2 fun i j => E ⟨128 * i + j, by omega⟩

/-- The maximum of a block is its largest entry. -/
theorem max_block (E : Fin 16384 → ℝ) (p : Fin 16384) (hp : ∀ q, E q ≤ E p) : k2_pay3 (blockOf E) (ix2 0 0) = ((E p : ℝ) : EReal) := by
  unfold k2_pay3
  pointwise
  rw [ofBits_bot]
  apply le_antisymm
  · refine Finset.fold_max_le _ |>.2 ⟨bot_le, fun x _ => Finset.fold_max_le _ |>.2 ⟨bot_le, fun y _ => ?_⟩⟩
    exact EReal.coe_le_coe_iff.2 (hp _)
  · refine Finset.le_fold_max _ |>.2 (Or.inr ⟨⟨p % 128, by omega⟩, Finset.mem_univ _, Finset.le_fold_max _ |>.2 (Or.inr ⟨⟨p / 128, by omega⟩, Finset.mem_univ _, ?_⟩)⟩)
    have : (⟨128 * (p.val / 128) + p.val % 128, by omega⟩ : Fin 16384) = p := Fin.ext (Nat.div_add_mod _ _)
    show ((E p : ℝ) : EReal) ≤ ((E ⟨128 * (p.val / 128) + p.val % 128, by omega⟩ : ℝ) : EReal)
    rw [this]

/-- The first place of the maximum, as the kernel finds it: a word of a place where the block is largest. -/
theorem min_place (E : Fin 16384 → ℝ) (m : EReal) (p0 : Fin 16384) (h0 : ((E p0 : ℝ) : EReal) = m) :
    ∃ p : Fin 16384, ((E p : ℝ) : EReal) = m ∧
      Finset.fold IntOp.minsi (2147483647#32)
          (fun x : Fin 128 => Finset.fold IntOp.minsi (2147483647#32)
              (fun x_1 : Fin 128 => if blockOf E (ix2 x_1 x) = m then
                  IntOp.addi (IntOp.muli (BitVec.ofNat 32 x_1) 128#32) (BitVec.ofNat 32 x) else 16384#32) Finset.univ)
          Finset.univ = BitVec.ofNat 32 p := by
  simp only [place_word]
  generalize hF : (fun x x_1 : Fin 128 => if blockOf E (ix2 x_1 x) = m then BitVec.ofNat 32 (128 * x_1 + x) else 16384#32) = F
  have hF' : ∀ x x_1 : Fin 128, F x x_1 = if blockOf E (ix2 x_1 x) = m then BitVec.ofNat 32 (128 * x_1 + x) else 16384#32 := fun x x_1 => by rw [← hF]
  show ∃ p : Fin 16384, ((E p : ℝ) : EReal) = m ∧ Finset.fold IntOp.minsi (2147483647#32)
    (fun x : Fin 128 => Finset.fold IntOp.minsi (2147483647#32) (fun x_1 => (fun x x_1 : Fin 128 => if blockOf E (ix2 x_1 x) = m then BitVec.ofNat 32 (128 * x_1 + x) else 16384#32) x x_1) Finset.univ) Finset.univ = BitVec.ofNat 32 p
  rw [hF]
  have inner := fun x : Fin 128 => fold_minsi (2147483647#32) (F x) Finset.univ
  obtain ⟨o1, o2⟩ := fold_minsi (2147483647#32) (fun x : Fin 128 => Finset.fold IntOp.minsi (2147483647#32) (F x) Finset.univ) Finset.univ
  have hlt : (Finset.fold IntOp.minsi (2147483647#32) (fun x : Fin 128 => Finset.fold IntOp.minsi (2147483647#32) (F x) Finset.univ) Finset.univ).toInt < 16384 := by
    refine lt_of_le_of_lt ((o1 ⟨p0 % 128, by omega⟩ (Finset.mem_univ _)).trans ((inner _).1 ⟨p0 / 128, by omega⟩ (Finset.mem_univ _))) ?_
    rw [hF']
    have e : (⟨128 * (p0.val / 128) + p0.val % 128, by omega⟩ : Fin 16384) = p0 := Fin.ext (Nat.div_add_mod _ _)
    have : blockOf E (ix2 ⟨p0 / 128, by omega⟩ ⟨p0 % 128, by omega⟩) = m := by
      rw [← h0]
      exact congrArg (fun q => ((E q : ℝ) : EReal)) e
    rw [if_pos this, toInt_small _ (by have := p0.isLt; show 128 * (p0.val / 128) + p0.val % 128 ≤ 16384; omega)]
    have := p0.isLt
    show ((128 * (p0.val / 128) + p0.val % 128 : ℕ) : ℤ) < 16384
    omega
  rcases o2 with o2 | ⟨x, -, o2⟩
  · rw [o2] at hlt; exact absurd hlt (by decide)
  · rw [o2] at hlt ⊢
    rcases (inner x).2 with i2 | ⟨y, -, i2⟩
    · rw [i2] at hlt; exact absurd hlt (by decide)
    · rw [i2, hF'] at hlt
      rw [i2, hF']
      by_cases hc : blockOf E (ix2 y x) = m
      · rw [if_pos hc]
        exact ⟨⟨128 * y + x, by omega⟩, hc, rfl⟩
      · rw [if_neg hc] at hlt; exact absurd hlt (by decide)

/-- A choice by equality of two small words is the choice by equality of the numbers. -/
theorem select_word {α : Type} (n p : ℕ) (hn : n < 16384) (hp : p < 16384) (a b : α) :
    Scalar.select (IntOp.cmpi CmpIPredicate.eq (BitVec.ofNat 32 n) (BitVec.ofNat 32 p)) a b = if n = p then a else b := by
  by_cases h : n = p
  · subst h
    rw [if_pos rfl]
    unfold IntOp.cmpi
    rw [beq_self_eq_true]
    rfl
  · have hb : (BitVec.ofNat 32 n == BitVec.ofNat 32 p) = false := by
      refine beq_eq_false_iff_ne.2 fun hb => h ?_
      have := congrArg BitVec.toNat hb
      rw [BitVec.toNat_ofNat, BitVec.toNat_ofNat] at this
      omega
    rw [if_neg h]
    unfold IntOp.cmpi
    rw [hb]
    rfl

/-- The kernel's masking step at a place, from the word of the place it masks. -/
theorem k2_pay4_at (e : FVec Ideal S128x128 .f32) (w : BitVec 32)
    (hw : Finset.fold IntOp.minsi (2147483647#32)
          (fun x : Fin 128 => Finset.fold IntOp.minsi (2147483647#32)
              (fun x_1 : Fin 128 => if e (ix2 x_1 x) = k2_pay3 e (ix2 0 0) then
                  IntOp.addi (IntOp.muli (BitVec.ofNat 32 x_1) 128#32) (BitVec.ofNat 32 x) else 16384#32) Finset.univ)
          Finset.univ = w) (i j : Fin 128) :
    k2_pay4 e (ix2 i j) = Scalar.select (IntOp.cmpi CmpIPredicate.eq (BitVec.ofNat 32 (128 * i + j)) w) ((-1 : ℝ) : EReal) (e (ix2 i j)) := by
  unfold k2_pay4
  pointwise
  rw [hw, place_word, ofBits_eq _ (by decide), K_neg_one]

/-- One trip of the kernel's loop is a round of the repeated maximum. -/
theorem trip_round (E : Fin 16384 → ℝ) : ∃ (E' : Fin 16384 → ℝ) (p : Fin 16384), Spec.Round E E' p
    ∧ k2_pay4 (blockOf E) = blockOf E' ∧ k2_pay3 (blockOf E) (ix2 0 0) = ((E p : ℝ) : EReal) := by
  obtain ⟨p0, hp0⟩ := Finite.exists_max E
  have hm := max_block E p0 hp0
  obtain ⟨p, hp, hw⟩ := min_place E _ p0 hm.symm
  have hpE : E p = E p0 := by rw [hm] at hp; exact EReal.coe_eq_coe_iff.1 hp
  refine ⟨fun q => if q = p then -1 else E q, p, ⟨fun q => by rw [hpE]; exact hp0 q, fun q => rfl⟩, ?_, hp.symm⟩
  refine eq_up2 _ _ fun i j => ?_
  rw [k2_pay4_at _ _ hw, select_word _ _ (by omega) p.isLt]
  generalize hq : (⟨128 * i.val + j.val, by omega⟩ : Fin 16384) = q
  have hv : 128 * i.val + j.val = q.val := congrArg Fin.val hq
  have hb : blockOf E (ix2 i j) = ((E q : ℝ) : EReal) := congrArg (fun q => ((E q : ℝ) : EReal)) hq
  rw [hb, hv]
  show _ = ((if q = p then -1 else E q : ℝ) : EReal)
  by_cases h : q = p
  · rw [if_pos h, if_pos (congrArg Fin.val h)]
  · rw [if_neg h, if_neg fun h' => h (Fin.ext h')]

/-- The block after a trip. -/
def nxt (E : Fin 16384 → ℝ) : Fin 16384 → ℝ := (trip_round E).choose
/-- The place a trip picks. -/
def pick (E : Fin 16384 → ℝ) : Fin 16384 := (trip_round E).choose_spec.choose

/-- A fold over the trips of a loop keeps an invariant of the trip's number. -/
theorem fold_ind {n : ℕ} {α : Type} (g : Fin n → α → α) (init : α) (P : ℕ → α → Prop) (h0 : P 0 init)
    (hs : ∀ (k : Fin n) a, P k a → P (k + 1) (g k a)) : P n (Scf.fold g init) := by
  rw [Scf.fold_eq]
  have key : ∀ m, m ≤ n → P m (((List.finRange n).take m).foldl (fun acc k => g k acc) init) := by
    intro m
    induction m with
    | zero => intro _; simpa using h0
    | succ m ih =>
      intro hm
      have hl : m < (List.finRange n).length := by rw [List.length_finRange]; omega
      rw [List.take_succ_eq_append_getElem hl, List.foldl_append]
      have := hs ((List.finRange n)[m]) _ (by simpa using ih (by omega))
      simpa using this
  have := key n le_rfl
  rwa [List.take_of_length_le (by rw [List.length_finRange])] at this

/-- The ninety-six maxima the loop leaves: the largest entries, from the largest down, and zeros after them. -/
theorem loop_top (f : Fin 16384 → ℝ) (hf : ∀ p, 0 ≤ f p) (l : Fin 128) :
    (Scf.fold (n := k2_t1_loop.trips) (fun a (x : FVec Ideal S128x128 .f32 × FVec Ideal S1x128 .f32) => (k2_pay4 x.1, k2_pay5 a x.1 x.2)) (blockOf f, k2_pay2)).2 (ix2 0 l)
      = (((if h : l.val < 96 then Spec.top (by omega) f (⟨l.val, h⟩ : Fin 96) else 0 : ℝ)) : EReal) := by
  have hn : k2_t1_loop.trips = 96 := by decide +kernel
  have inv := fold_ind (n := k2_t1_loop.trips) (fun a (x : FVec Ideal S128x128 .f32 × FVec Ideal S1x128 .f32) => (k2_pay4 x.1, k2_pay5 a x.1 x.2)) (blockOf f, k2_pay2)
    (fun r x => x.1 = blockOf (nxt^[r] f) ∧ ∀ l : Fin 128, x.2 (ix2 0 l) = ((if l.val < r then (nxt^[l.val] f) (pick (nxt^[l.val] f)) else 0 : ℝ) : EReal))
    ⟨rfl, fun l => ?_⟩ ?_
  · have h2 := inv.2 l
    refine h2.trans ?_
    by_cases h : l.val < 96
    · rw [if_pos (hn.symm ▸ h), dif_pos h]
      exact congrArg _ (Spec.rounds_eq_top (by omega) f hf (fun r => nxt^[r] f) (fun r : Fin 96 => pick (nxt^[r.val] f)) rfl
        (fun r => by
          show Spec.Round (nxt^[r.val] f) (nxt^[r.val + 1] f) _
          rw [Function.iterate_succ_apply']
          exact (trip_round (nxt^[r.val] f)).choose_spec.choose_spec.1) ⟨l.val, h⟩)
    · rw [if_neg (hn.symm ▸ h), dif_neg h]
  · unfold k2_pay2
    pointwise
    simp
  · rintro k ⟨e, tk⟩ ⟨he, ht⟩
    have hk : k.val < 96 := hn ▸ k.isLt
    obtain ⟨-, hs4, hs3⟩ := (trip_round (nxt^[k.val] f)).choose_spec.choose_spec
    dsimp only at he ht ⊢
    subst he
    refine ⟨?_, fun l => ?_⟩
    · rw [Function.iterate_succ_apply']
      exact hs4
    · unfold k2_pay5
      pointwise
      rw [ht l, hs3]
      have hiv : Scf.iv 0#32 1#32 k = BitVec.ofNat 32 k.val := by
        unfold Scf.iv
        simp
      rw [hiv]
      rw [select_word _ _ (by omega) (by omega)]
      by_cases h : l.val = k.val
      · rw [if_pos h, h, if_pos (Nat.lt_succ_self _)]
        rfl
      · have hiff : l.val < k.val + 1 ↔ l.val < k.val := by omega
        rw [if_neg h]
        exact congrArg _ (if_congr hiff rfl rfl).symm

end Cert.Val
-- ==== Proof.Region2.lean ====
/- The top-k kernel: its whole result, over the reals. -/
module

public import proofs.«01_k».proof.Proof.Chunk
public import proofs.«01_k».proof.Proof.Rounds
public import proofs.«01_k».proof.Proof.Gen.KernelIdeal.Frame
public import Idealize.ShloMosaic.Lib.Pipeline.ValueKit
@[expose] public section
set_option maxRecDepth 16384
noncomputable section
namespace Cert.Val
open Idealize.ShloMosaic Idealize.ShloMosaic.TcCoe Idealize.ShloMosaic.Tactic Idealize.SL Cert.KernelIdeal Cert.KernelIdeal.Gen
open scoped BigOperators

/-- The two dense layers and the logistic function on a row of 128 entries. -/
def dense (tk : Fin 128 → ℝ) (F1 : Fin 128 → Fin 128 → ℝ) (B1 F2 : Fin 128 → ℝ) (b2 : ℝ) : ℝ :=
  (1 + Real.exp (-((∑ x, max ((∑ y, tk y * F1 y x) + B1 x) 0 * F2 x) + b2)))⁻¹

/-- A maximum with zero, on real numbers. -/
theorem relu_coe (x : ℝ) : max ((x : ℝ) : EReal) 0 = ((max x 0 : ℝ) : EReal) := by
  rw [← EReal.coe_zero, EReal.coe_strictMono.monotone.map_max]

/-- What the kernel stores from the row of maxima. -/
theorem k2_pay6_at (tk : FVec Ideal S1x128 .f32) (T : Fin 128 → ℝ) (hT : ∀ l, tk (ix2 0 l) = ((T l : ℝ) : EReal))
    (F1 : Fin 128 → Fin 128 → ℝ) (B1 F2 : Fin 128 → ℝ) (b2 : ℝ) (v : Vec Ideal S1x1 .f32) (hv : v (ix2 0 0) = ((b2 : ℝ) : EReal)) (l : Fin 128) :
    k2_pay6 tk (up2 F1) (up2 fun _ => B1) (up2 fun _ => F2) v (ix3 0 0 l) = ((dense T F1 B1 F2 b2 : ℝ) : EReal) := by
  unfold k2_pay6
  pointwise
  rw [hv]
  simp only [hT, up2_ix, ← EReal.coe_mul, coe_sum, ← EReal.coe_add, relu_coe]
  rw [Ideal.logistic_coe]
  rfl

/-- The first entry of a row, loaded. -/
theorem ld_first (b : Vec Ideal S1x128 .f32) (inb : ∀ a, (![0, 0] : Fin 2 → ℕ) a + (![1, 1] : Fin 2 → ℕ) a ≤ S1x128.size a) :
    View.ld b (Rect.unit ![0, 0] ![1, 1] inb) (ix2 0 0) = b (ix2 0 0) := by
  pointwise

variable (V : (c : Dev nD) → (b : Ref sig .tc) → Buf (Elt Ideal) ((c : Thread nD τ).loc b))

/-- The row of the largest entries, with zeros after them. -/
def topRow (f : Fin 16384 → ℝ) (l : Fin 128) : ℝ := if h : l.val < 96 then Spec.top (by omega) f (⟨l.val, h⟩ : Fin 96) else 0

/-- An index of the attention's block is its last coordinate's. -/
theorem idx_row (y : S1x1x128.Idx) : y = ix3 (0 : Fin 1) (0 : Fin 1) (y 2) := by
  funext a
  fin_cases a
  · exact Subsingleton.elim (α := Fin 1) _ _
  · exact Subsingleton.elim (α := Fin 1) _ _
  · rfl

/-- The blocks of the layers' weights at a grid point: each is its whole array. -/
theorem consts2 (c : Dev nD) (t : Fin cfg2.N) (F1 : Fin 128 → Fin 128 → ℝ) (B1 F2 B2 : Fin 128 → ℝ)
    (h1 : V c main_v110 = up2 F1) (h2 : V c main_v115 = up2 (fun (_ : Fin 1) => B1))
    (h3 : V c main_v121 = up2 (fun (_ : Fin 1) => F2)) (h4 : V c main_v123 = up2 (fun (_ : Fin 1) => B2)) :
    iblk2 V c 1 t = up2 F1 ∧ iblk2 V c 2 t = up2 (fun (_ : Fin 1) => B1) ∧ iblk2 V c 3 t = up2 (fun (_ : Fin 1) => F2)
      ∧ iblk2 V c 4 t = up2 (fun (_ : Fin 1) => B2) := by
  have e1 : win2_1.index t = ![0, 0] := rfl
  have e2 : win2_2.index t = ![0, 0] := rfl
  have e3 : win2_3.index t = ![0, 0] := rfl
  have e4 : win2_4.index t = ![0, 0] := rfl
  rw [← h1, ← h2, ← h3, ← h4]
  clear h1 h2 h3 h4
  refine ⟨?_, ?_, ?_, ?_⟩ <;>
    (refine funext fun y => ?_
     blk_simp [iblk2]
     refine congrArg (V c _) ?_
     blk_ext [e1, e2, e3, e4])

/-- The energies' block at a grid point: its image's. -/
theorem energy2 (c : Dev nD) (t : Fin cfg2.N) (ht : t.val < 4) (E : Fin 4 → Fin 128 → Fin 128 → ℝ) (h0 : V c main_v104 = up3 E) :
    k2_pay1 (iblk2 V c 0 t : Vec Ideal S1x128x128 .f32)
      = blockOf (fun p => E ⟨t.val, ht⟩ ⟨p / 128, by omega⟩ ⟨p % 128, by omega⟩) := by
  have e0 : ∀ t : Fin cfg2.N, win2_0.index t = ![t.val, 0, 0] := (by decide +kernel : ∀ t : Fin grid2.N, _)
  refine eq_up2 _ _ fun i j => ?_
  have hb : (iblk2 V c 0 t : Vec Ideal S1x128x128 .f32) (ix3 0 i j) = ((E ⟨t.val, ht⟩ i j : ℝ) : EReal) := by
    blk_simp [iblk2]
    rw [h0]
    refine (congrArg (up3 E) (?_ : _ = ix3 ⟨t.val, ht⟩ i j)).trans rfl
    blk_ext [e0]
  generalize (iblk2 V c 0 t : Vec Ideal S1x128x128 .f32) = u at *
  unfold k2_pay1
  pointwise
  rw [hb]
  have q0 : (128 * i.val + j.val) / 128 = i.val := by omega
  have q1 : (128 * i.val + j.val) % 128 = j.val := by omega
  simp only [q0, q1]
  rfl

/-- The block the top-k kernel leaves at a grid point. -/
theorem out2_eq (c : Dev nD) (t : Fin cfg2.N) (ht : t.val < 4) (E : Fin 4 → Fin 128 → Fin 128 → ℝ) (hE : ∀ b i j, 0 ≤ E b i j)
    (F1 : Fin 128 → Fin 128 → ℝ) (B1 F2 B2 : Fin 128 → ℝ)
    (h0 : V c main_v104 = up3 E) (h1 : V c main_v110 = up2 F1) (h2 : V c main_v115 = up2 (fun (_ : Fin 1) => B1))
    (h3 : V c main_v121 = up2 (fun (_ : Fin 1) => F2)) (h4 : V c main_v123 = up2 (fun (_ : Fin 1) => B2)) (l : Fin 128) :
    outsAt2 V c t (ix3 0 0 l)
      = ((dense (topRow fun p => E ⟨t.val, ht⟩ ⟨p / 128, by omega⟩ ⟨p % 128, by omega⟩) F1 B1 F2 (B2 0) : ℝ) : EReal) := by
  have a0 := energy2 V c t ht E h0
  obtain ⟨a1, a2, a3, a4⟩ := consts2 V c t F1 B1 F2 B2 h1 h2 h3 h4
  clear h0 h1 h2 h3 h4
  unfold outsAt2
  frame_out
  rw [a0, a1, a2, a3, a4]
  exact k2_pay6_at _ (topRow fun p => E ⟨t.val, ht⟩ ⟨p / 128, by omega⟩ ⟨p % 128, by omega⟩)
    (fun l => loop_top _ (fun p => hE _ _ _) l) F1 B1 F2 (B2 0) _ ((ld_first (up2 (fun (_ : Fin 1) => B2)) inb_S1x128_S1x1_0_0).trans (up2_ix _ 0 0)) l

/-- The whole result of the top-k kernel. -/
theorem region2 (c : Dev nD) (E : Fin 4 → Fin 128 → Fin 128 → ℝ) (hE : ∀ b i j, 0 ≤ E b i j) (F1 : Fin 128 → Fin 128 → ℝ) (B1 F2 B2 : Fin 128 → ℝ)
    (h0 : V c main_v104 = up3 E) (h1 : V c main_v110 = up2 F1) (h2 : V c main_v115 = up2 (fun (_ : Fin 1) => B1))
    (h3 : V c main_v121 = up2 (fun (_ : Fin 1) => F2)) (h4 : V c main_v123 = up2 (fun (_ : Fin 1) => B2)) :
    (dat2 V c).arrAt 5 cfg2.N = (up3 (fun b _ _ => dense (topRow fun p => E b ⟨p / 128, by omega⟩ ⟨p % 128, by omega⟩) F1 B1 F2 (B2 0))
      : FVec Ideal S4x1x128 .f32) := by
  have e5 : ∀ t : Fin cfg2.N, win2_5.index t = ![t.val, 0, 0] := (by decide +kernel : ∀ t : Fin grid2.N, _)
  refine (dat2 V c).arrAt_eq_of_covers 5 _ (by decide +kernel) fun t hf y => ?_
  have ht : t.val < 4 := t.isLt
  have key := out2_eq V c t ht E hE F1 B1 F2 B2 h0 h1 h2 h3 h4 (y 2)
  clear h0 h1 h2 h3 h4
  blk_simp
  rw [after2_5]
  refine (congrArg _ (idx_row y)).trans (key.trans ?_)
  refine Eq.trans ?_ (congrArg (up3 _) (?_ : ix3 ⟨t.val, ht⟩ 0 (y 2) = _))
  · rfl
  · clear key
    blk_ext [e5]

end Cert.Val
-- ==== Proof.Region3.lean ====
/- The last kernel: its two whole results, over the reals. -/
module

public import proofs.«01_k».proof.Proof.Chunk
public import proofs.«01_k».proof.Proof.Gen.KernelIdeal.Frame
public import Idealize.ShloMosaic.Lib.Pipeline.ValueKit
public import Idealize.ShloMosaic.Lib.Pipeline.CanonAppend
@[expose] public section
set_option maxRecDepth 16384
noncomputable section
namespace Cert.Val
open Idealize.ShloMosaic Idealize.ShloMosaic.TcCoe Idealize.ShloMosaic.Tactic Idealize.SL Cert.KernelIdeal Cert.KernelIdeal.Gen
open scoped BigOperators

/-- What the last kernel stores: the image and the fused image scaled by one plus the attention. -/
theorem k3_pay2_at (a : Ideal .f32) (x y : Vec Ideal S1x96x4096 .f32) (i : Fin 96) (j : Fin 4096) :
    k3_pay2 a x y (ix3 0 i j) = y (ix3 0 i j) + x (ix3 0 i j) * (1 + a) := by
  unfold k3_pay2 k3_pay1
  pointwise

/-- The same store for the second image. -/
theorem k3_pay3_at (a : Ideal .f32) (x y : Vec Ideal S1x96x4096 .f32) (i : Fin 96) (j : Fin 4096) :
    k3_pay3 a x y (ix3 0 i j) = y (ix3 0 i j) + x (ix3 0 i j) * (1 + a) := by
  unfold k3_pay3 k3_pay1
  pointwise

/-- That arithmetic on real numbers. -/
theorem scaled_coe (x r a : ℝ) : (x : EReal) + (r : EReal) * (1 + (a : EReal)) = ((x + r * (1 + a) : ℝ) : EReal) := by
  rw [EReal.coe_add, EReal.coe_mul, EReal.coe_add, EReal.coe_one]

variable (V : (c : Dev nD) → (b : Ref sig .tc) → Buf (Elt Ideal) ((c : Thread nD τ).loc b))

/-- The attention word a grid point loads: its image's. -/
theorem att_ld (c : Dev nD) (A : Fin 4 → ℝ) (h0 : V c main_v126 = up1 A) (t : Fin cfg3.N) (h) (h2) :
    View.ld (iblk3 V c 0 t : Vec Ideal S4 .f32) (Rect.unit (k3_off1 (grid3.coords t)) ![1] h) (Shape.Idx.first h2)
      = ((A ⟨t.val / 4, by have : t.val < 16 := t.isLt; omega⟩ : ℝ) : EReal) := by
  have e0 : ∀ t : Fin cfg3.N, win3_0.index t = ![0] := fun _ => rfl
  have eo : ∀ t : Fin cfg3.N, k3_off1 (grid3.coords t) 0 = t.val / 4 := (by decide +kernel : ∀ t : Fin grid3.N, _)
  have a0 : (iblk3 V c 0 t : Vec Ideal S4 .f32) = up1 A := by
    rw [← h0]
    refine funext fun y => ?_
    blk_simp [iblk3]
    refine congrArg (V c _) ?_
    blk_ext [e0]
  rw [a0]
  pointwise
  simp only [up1_ix, eo]

/-- The blocks of the two images and of the fused image at a grid point. -/
theorem blocks3 (c : Dev nD) (X1 X2 R : Fin 4 → Fin 96 → Fin 16384 → ℝ) (h1 : V c main_v127 = up3 X1) (h2 : V c main_v128 = up3 X2)
    (h3 : V c main_v99 = up3 R) (t : Fin cfg3.N) (i : Fin 96) (j : Fin 4096) :
    (iblk3 V c 1 t : Vec Ideal S1x96x4096 .f32) (ix3 0 i j)
        = ((X1 ⟨t.val / 4, by have : t.val < 16 := t.isLt; omega⟩ i ⟨t.val % 4 * 4096 + j, by omega⟩ : ℝ) : EReal)
    ∧ (iblk3 V c 2 t : Vec Ideal S1x96x4096 .f32) (ix3 0 i j)
        = ((X2 ⟨t.val / 4, by have : t.val < 16 := t.isLt; omega⟩ i ⟨t.val % 4 * 4096 + j, by omega⟩ : ℝ) : EReal)
    ∧ (iblk3 V c 3 t : Vec Ideal S1x96x4096 .f32) (ix3 0 i j)
        = ((R ⟨t.val / 4, by have : t.val < 16 := t.isLt; omega⟩ i ⟨t.val % 4 * 4096 + j, by omega⟩ : ℝ) : EReal) := by
  have e1 : ∀ t : Fin cfg3.N, win3_1.index t = ![t.val / 4, 0, t.val % 4] := (by decide +kernel : ∀ t : Fin grid3.N, _)
  have e2 : ∀ t : Fin cfg3.N, win3_2.index t = ![t.val / 4, 0, t.val % 4] := (by decide +kernel : ∀ t : Fin grid3.N, _)
  have e3 : ∀ t : Fin cfg3.N, win3_3.index t = ![t.val / 4, 0, t.val % 4] := (by decide +kernel : ∀ t : Fin grid3.N, _)
  have ht : t.val < 16 := t.isLt
  refine ⟨?_, ?_, ?_⟩
  · blk_simp [iblk3]
    rw [h1]
    refine (congrArg (up3 X1) (?_ : _ = ix3 ⟨t.val / 4, by omega⟩ i ⟨t.val % 4 * 4096 + j, by omega⟩)).trans rfl
    blk_ext [e1]
  · blk_simp [iblk3]
    rw [h2]
    refine (congrArg (up3 X2) (?_ : _ = ix3 ⟨t.val / 4, by omega⟩ i ⟨t.val % 4 * 4096 + j, by omega⟩)).trans rfl
    blk_ext [e2]
  · blk_simp [iblk3]
    rw [h3]
    refine (congrArg (up3 R) (?_ : _ = ix3 ⟨t.val / 4, by omega⟩ i ⟨t.val % 4 * 4096 + j, by omega⟩)).trans rfl
    blk_ext [e3]

/-- The two whole results of the last kernel. -/
theorem region3 (c : Dev nD) (A : Fin 4 → ℝ) (X1 X2 R : Fin 4 → Fin 96 → Fin 16384 → ℝ) (h0 : V c main_v126 = up1 A)
    (h1 : V c main_v127 = up3 X1) (h2 : V c main_v128 = up3 X2) (h3 : V c main_v99 = up3 R) :
    (dat3 V c).arrAt 4 cfg3.N = (up3 (fun b i n => X1 b i n + R b i n * (1 + A b)) : FVec Ideal S4x96x16384 .f32)
    ∧ (dat3 V c).arrAt 5 cfg3.N = (up3 (fun b i n => X2 b i n + R b i n * (1 + A b)) : FVec Ideal S4x96x16384 .f32) := by
  have e4 : ∀ t : Fin cfg3.N, win3_4.index t = ![t.val / 4, 0, t.val % 4] := (by decide +kernel : ∀ t : Fin grid3.N, _)
  have e5 : ∀ t : Fin cfg3.N, win3_5.index t = ![t.val / 4, 0, t.val % 4] := (by decide +kernel : ∀ t : Fin grid3.N, _)
  have hy : ∀ y : S1x96x4096.Idx, y = ix3 0 (y 1) (y 2) := fun y => by
    refine (eq_ix3 y).trans ?_
    have : y 0 = (0 : Fin 1) := Subsingleton.elim (α := Fin 1) _ _
    exact congrArg (fun a => ix3 a (y 1) (y 2)) this
  constructor
  · refine (dat3 V c).arrAt_eq_of_covers 4 _ (by decide +kernel) fun t hf y => ?_
    have ht : t.val < 16 := t.isLt
    have hb := blocks3 V c X1 X2 R h1 h2 h3 t (y 1) (y 2)
    have ha := att_ld V c A h0 t
    have hy2 : (y 2).val < 4096 := (y 2).isLt
    clear h0 h1 h2 h3
    blk_simp
    rw [after3_4]
    unfold outsAt3
    frame_out
    refine (congrArg _ (hy y)).trans ((k3_pay2_at _ _ _ _ _).trans ?_)
    rw [ha, hb.1, hb.2.2]
    refine Eq.trans ?_ (congrArg (up3 _) (?_ : ix3 ⟨t.val / 4, by omega⟩ (y 1) ⟨t.val % 4 * 4096 + (y 2).val, by omega⟩ = _))
    · exact scaled_coe _ _ _
    · blk_ext [e4]
  · refine (dat3 V c).arrAt_eq_of_covers 5 _ (by decide +kernel) fun t hf y => ?_
    have ht : t.val < 16 := t.isLt
    have hb := blocks3 V c X1 X2 R h1 h2 h3 t (y 1) (y 2)
    have ha := att_ld V c A h0 t
    have hy2 : (y 2).val < 4096 := (y 2).isLt
    clear h0 h1 h2 h3
    blk_simp
    rw [after3_5]
    unfold outsAt3
    frame_out
    refine (congrArg _ (hy y)).trans ((k3_pay3_at _ _ _ _ _).trans ?_)
    rw [ha, hb.2.1, hb.2.2]
    refine Eq.trans ?_ (congrArg (up3 _) (?_ : ix3 ⟨t.val / 4, by omega⟩ (y 1) ⟨t.val % 4 * 4096 + (y 2).val, by omega⟩ = _))
    · exact scaled_coe _ _ _
    · blk_ext [e5]

end Cert.Val
-- ==== Proof.KernelValue.lean ====
/- The kernel's results, from its arguments as real arrays. -/
module

public import proofs.«01_k».proof.Proof.Host1
public import proofs.«01_k».proof.Proof.Feat
public import proofs.«01_k».proof.Proof.SpecOut
public import proofs.«01_k».proof.Proof.Region0Out
public import proofs.«01_k».proof.Proof.Region1
public import proofs.«01_k».proof.Proof.Region2
public import proofs.«01_k».proof.Proof.Region3

@[expose] public section
set_option maxRecDepth 16384
noncomputable section
namespace Cert.Val
open Idealize.ShloMosaic Idealize.ShloMosaic.TcCoe Idealize.ShloMosaic.Tactic Idealize.SL Cert.KernelIdeal Cert.KernelIdeal.Gen
open scoped BigOperators

variable (m : (ℓ : Loc nD τ sig) → Buf (Elt Ideal) ℓ) (ρ : Dev nD → PrngReg) (c : Dev nD) (A : Spec.Args)

/-- What the first stretch computed is still there at the first call. -/
theorem W5_keep (r : Ref sig .tc) (h1 : r ∉ hostOps0_1_W) (h2 : r ∉ hostOps0_2_W) (h3 : r ∉ hostOps0_3_W) (h4 : r ∉ hostOps0_4_W) :
    W5 m ρ c (Proc.devRef .tc r) = W1 m ρ c (Proc.devRef .tc r) :=
  (W5_of m ρ c r h4).trans ((W4_of m ρ c r h3).trans ((W3_of m ρ c r h2).trans (W2_of m ρ c r h1)))

/-- The first call's slabs. -/
theorem W5_v91 (h : Holds m c A) : W5 m ρ c (Proc.devRef .tc main_v91) = up4 (fun b s c n => slab (A.x1 b) s c n) := by
  rw [W5_of m ρ c main_v91 (by decide +kernel), W4_of m ρ c main_v91 (by decide +kernel)]
  exact slab_read0 (W1 m ρ c) _ ((W1_args m ρ c main_arg0 (by decide)).trans h.a0) (by after_results)

/-- The first call's slabs of the second image. -/
theorem W5_v98 (h : Holds m c A) : W5 m ρ c (Proc.devRef .tc main_v98) = up4 (fun b s c n => slab (A.x2 b) s c n) :=
  slab_read1 (W3 m ρ c) _ ((W3_args m ρ c main_arg1 (by decide)).trans h.a1) (by after_results)

/-- The first call's result: the fused image after the attention and MLP steps, in a line along its pixels. -/
theorem W6_v99 (h : Holds m c A) :
    W6 m ρ c (Proc.devRef .tc main_v99) = (up3 (fun b o n => Spec.cross A b o ⟨n.val / 128, by omega⟩ ⟨n.val % 128, by omega⟩) : FVec Ideal S4x96x16384 .f32) := by
  obtain ⟨t1, t2, t3, t4, t5⟩ := W1_tiles m ρ c A h
  refine (W6_arr m ρ c 13).trans ?_
  refine (region0 (V5 m ρ) c (fun b s c n => slab (A.x1 b) s c n) (fun b s c n => slab (A.x2 b) s c n)
    (wcat (Spec.weff A.w1 A.lm1 A.th1) (Spec.weff A.w2 A.lm2 A.th2)) (Spec.wc A) (Spec.bc A) A.g1 A.b1 A.g2 A.b2 A.m1 A.mb1 A.m2 A.mb2
    (W5_v91 m ρ c A h) (W5_v98 m ρ c A h)
    ((W5_keep m ρ c main_v65 (by decide +kernel) (by decide +kernel) (by decide +kernel) (by decide +kernel)).trans (W1_v65 m ρ c A h))
    ((W5_keep m ρ c main_v68 (by decide +kernel) (by decide +kernel) (by decide +kernel) (by decide +kernel)).trans (W1_v68 m ρ c A h))
    ((W5_keep m ρ c main_v72 (by decide +kernel) (by decide +kernel) (by decide +kernel) (by decide +kernel)).trans (W1_v72 m ρ c A h))
    ((W5_keep m ρ c main_v74 (by decide +kernel) (by decide +kernel) (by decide +kernel) (by decide +kernel)).trans (W1_v74 m ρ c A h))
    ((W5_keep m ρ c main_v76 (by decide +kernel) (by decide +kernel) (by decide +kernel) (by decide +kernel)).trans t1)
    ((W5_keep m ρ c main_v78 (by decide +kernel) (by decide +kernel) (by decide +kernel) (by decide +kernel)).trans t2)
    ((W5_keep m ρ c main_v80 (by decide +kernel) (by decide +kernel) (by decide +kernel) (by decide +kernel)).trans t3)
    ((W5_args m ρ c main_arg16 (by decide)).trans h.a16)
    ((W5_keep m ρ c main_v82 (by decide +kernel) (by decide +kernel) (by decide +kernel) (by decide +kernel)).trans t4)
    ((W5_args m ρ c main_arg18 (by decide)).trans h.a18)
    ((W5_keep m ρ c main_v84 (by decide +kernel) (by decide +kernel) (by decide +kernel) (by decide +kernel)).trans t5)).trans ?_
  refine congrArg (up3 (a := 4) (b := 96) (c := 16384)) (funext fun b => funext fun o => funext fun n => ?_)
  unfold outN Spec.cross
  refine congrArg (fun t => Spec.mlp A.m1 A.mb1 A.m2 A.mb2 A.g2 A.b2 (Spec.attn (Spec.wc A) (Spec.bc A) A.g1 A.b1 t) o) (funext fun k => ?_)
  exact feat_link A b n k

/-- The second call's matrices give the cosine transform over the number of channels. -/
theorem dct_link (b : Fin 4) (i j : Fin 128) :
    (∑ c : Fin 96, |∑ h, A.dh i h / 96 * ∑ v, Spec.cross A b c h v * A.dw j v|) = Spec.energy A b i j := by
  unfold Spec.energy
  rw [Finset.sum_div]
  refine Finset.sum_congr rfl fun c _ => ?_
  have e : (∑ h, A.dh i h / 96 * ∑ v, Spec.cross A b c h v * A.dw j v) = Spec.dct A b c i j / 96 := by
    unfold Spec.dct
    rw [Finset.sum_div]
    simp only [Finset.mul_sum, Finset.sum_mul, Finset.sum_div]
    rw [Finset.sum_comm]
    refine Finset.sum_congr rfl fun v _ => Finset.sum_congr rfl fun h _ => ?_
    ring
  rw [e, abs_div, abs_of_pos (by norm_num : (0 : ℝ) < 96)]

/-- The second call's result: the energies. -/
theorem W8_v104 (h : Holds m c A) : W8 m ρ c (Proc.devRef .tc main_v104) = (up3 (Spec.energy A) : FVec Ideal S4x128x128 .f32) := by
  obtain ⟨r1, r2, r3⟩ := read1 (W6 m ρ c) _ _ _ (W6_v99 m ρ c A h) ((W6_args m ρ c main_arg24 (by decide)).trans h.a24)
    ((W6_args m ρ c main_arg25 (by decide)).trans h.a25)
  refine (W8_arr m ρ c 3).trans ((region1 (V7 m ρ) c _ _ _ r1 r2 r3).trans ?_)
  refine congrArg (up3 (a := 4) (b := 128) (c := 128)) (funext fun b => funext fun i => funext fun j => ?_)
  rw [← dct_link]
  refine Finset.sum_congr rfl fun c _ => congrArg _ (Finset.sum_congr rfl fun h _ => congrArg _ (Finset.sum_congr rfl fun v _ => ?_))
  refine congrArg (fun q => q * A.dw j v) (congr (congrArg (Spec.cross A b c) (Fin.ext ?_)) (Fin.ext ?_))
  · show (128 * h.val + v.val) / 128 = h.val; omega
  · show (128 * h.val + v.val) % 128 = v.val; omega

/-- A sum over 128 lanes of which only the first `k` count. -/
theorem sum_first (k : ℕ) (hk : k ≤ 128) (f : Fin 128 → ℝ) (h0 : ∀ x : Fin 128, k ≤ x.val → f x = 0) :
    (∑ x, f x) = ∑ x : Fin k, f ⟨x.val, by omega⟩ := by
  refine (Finset.sum_of_injOn (fun x : Fin k => (⟨x.val, by omega⟩ : Fin 128)) (fun a _ b _ e => ?_) (fun _ _ => Finset.mem_univ _) (fun x _ hx => ?_)
    (fun _ _ => rfl)).symm
  · have := congrArg Fin.val e
    exact Fin.ext this
  · refine h0 x (not_lt.1 fun hl => hx ?_)
    exact ⟨⟨x.val, hl⟩, by simp, rfl⟩

/-- The third call's dense layers, padded with zeros, are the gate's. -/
theorem dense_link (b : Fin 4) :
    dense (topRow fun p => Spec.energy A b ⟨p / 128, by omega⟩ ⟨p % 128, by omega⟩)
        (fun i j => if h : i.val < 96 ∧ j.val < 24 then A.f1 ⟨j.val, h.2⟩ ⟨i.val, h.1⟩ else 0) (fun j => if h : j.val < 24 then A.fb1 ⟨j.val, h⟩ else 0)
        (fun j => if h : j.val < 24 then A.f2 0 ⟨j.val, h⟩ else 0) (A.fb2 0) = Spec.att A b := by
  unfold dense Spec.att
  have e : ∀ u v : ℝ, u = v → (1 + Real.exp (-(u + A.fb2 0)))⁻¹ = (1 + Real.exp (-(v + A.fb2 0)))⁻¹ := fun u v h => by rw [h]
  refine e _ _ ?_
  rw [sum_first 24 (by norm_num) _ (fun x hx => by beta_reduce; rw [dif_neg (show ¬ x.val < 24 by omega), dif_neg (show ¬ x.val < 24 by omega), mul_zero])]
  refine Finset.sum_congr rfl fun x _ => ?_
  rw [sum_first 96 (by norm_num) _ (fun y hy => by beta_reduce; rw [dif_neg (fun h => absurd h.1 (not_lt.2 hy)), mul_zero])]
  beta_reduce
  rw [dif_pos x.isLt, dif_pos x.isLt]
  refine congrArg (fun q => max (q + A.fb1 x) 0 * A.f2 0 x) (Finset.sum_congr rfl fun y _ => ?_)
  rw [dif_pos ⟨y.isLt, x.isLt⟩]
  unfold topRow
  rw [dif_pos y.isLt]
  rfl

/-- The third call's result: the gate along every lane. -/
theorem W10_v124 (h : Holds m c A) : W10 m ρ c (Proc.devRef .tc main_v124) = (up3 (fun b _ _ => Spec.att A b) : FVec Ideal S4x1x128 .f32) := by
  obtain ⟨r1, r2, r3, r4⟩ := read2 (W8 m ρ c) A.f1 A.fb1 A.f2 A.fb2 ((W8_args m ρ c main_arg20 (by decide)).trans h.a20)
    ((W8_args m ρ c main_arg21 (by decide)).trans h.a21) ((W8_args m ρ c main_arg22 (by decide)).trans h.a22)
    ((W8_args m ρ c main_arg23 (by decide)).trans h.a23)
  refine (W10_arr m ρ c 5).trans ((region2 (V9 m ρ) c (Spec.energy A) (Spec.energy_nonneg A) _ _ _ (fun _ => A.fb2 0)
    ((W9_of m ρ c main_v104 (by decide +kernel)).trans (W8_v104 m ρ c A h)) r1 r2 r3 r4).trans ?_)
  refine congrArg (up3 (a := 4) (b := 1) (c := 128)) (funext fun b => funext fun _ => funext fun _ => ?_)
  exact dense_link A b

/-- The fused image is still there at the last call. -/
theorem W11_v99 : W11 m ρ c (Proc.devRef .tc main_v99) = W6 m ρ c (Proc.devRef .tc main_v99) :=
  (W11_of m ρ c main_v99 (by decide +kernel)).trans ((W10_of m ρ c main_v99 (by decide +kernel)).trans
    ((W9_of m ρ c main_v99 (by decide +kernel)).trans ((W8_of m ρ c main_v99 (by decide +kernel)).trans (W7_of m ρ c main_v99 (by decide +kernel)))))

/-- The kernel's results. -/
theorem W13_results (h : Holds m c A) :
    W13 m ρ c (Proc.devRef .tc main_v130) = (up4 (Spec.out1 A) : FVec Ideal S4x96x128x128 .f32)
    ∧ W13 m ρ c (Proc.devRef .tc main_v131) = (up4 (Spec.out2 A) : FVec Ideal S4x96x128x128 .f32) := by
  obtain ⟨r1, r2, r3⟩ := read3 (W10 m ρ c) _ A.x1 A.x2 (W10_v124 m ρ c A h) ((W10_args m ρ c main_arg0 (by decide)).trans h.a0)
    ((W10_args m ρ c main_arg1 (by decide)).trans h.a1)
  obtain ⟨o1, o2⟩ := region3 (V11 m ρ) c _ _ _ _ r1 r2 r3 ((W11_v99 m ρ c).trans (W6_v99 m ρ c A h))
  obtain ⟨q1, q2⟩ := read4 (W12 m ρ c) _ _ ((W12_arr m ρ c 4).trans o1) ((W12_arr m ρ c 5).trans o2)
  have e1 : ∀ h v : Fin 128, (⟨(128 * h.val + v.val) / 128, by omega⟩ : Fin 128) = h := fun h v => Fin.ext (by show (128 * h.val + v.val) / 128 = h.val; omega)
  have e2 : ∀ h v : Fin 128, (⟨(128 * h.val + v.val) % 128, by omega⟩ : Fin 128) = v := fun h v => Fin.ext (by show (128 * h.val + v.val) % 128 = v.val; omega)
  refine ⟨q1.trans ?_, q2.trans ?_⟩
  · refine congrArg (up4 (a := 4) (b := 96) (c := 128) (d := 128)) (funext fun b => funext fun o => funext fun i => funext fun j => ?_)
    simp only [e1, e2]
    rfl
  · refine congrArg (up4 (a := 4) (b := 96) (c := 128) (d := 128)) (funext fun b => funext fun o => funext fun i => funext fun j => ?_)
    simp only [e1, e2]
    rfl

end Cert.Val
-- ==== Proof.Run.lean ====
/- The run of the ideal kernel: what every buffer holds at the end. -/
module

public import proofs.«01_k».proof.Proof.KernelValue

@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The type of the run's resources. -/
local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with each kept buffer at the contents the fold of the segments gives it. -/
theorem run_kept : θ_run defs (onTc (τ := τ) (main (F := Ideal))) ⟨m, fun _ => 0, ρ⟩ (fun r =>
    ∀ c : Dev nD, ∀ b ∈ Pipeline.ucRefs τ sig, r.2.mem (((c : Thread nD τ)).1, b) = W13 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ => h)

/-- Every run ends with the two results at the fold's contents and the arguments as launched. -/
theorem run_results : θ_run defs (onTc (τ := τ) (main (F := Ideal))) ⟨m, fun _ => 0, ρ⟩ (fun r => ∀ c : Dev nD,
      r.2.mem ((c.tc : Thread nD τ).loc main_v130) = W13 m ρ c (Proc.devRef .tc main_v130)
      ∧ r.2.mem ((c.tc : Thread nD τ).loc main_v131) = W13 m ρ c (Proc.devRef .tc main_v131)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run _ _ _).mono (fun r h c =>
        ⟨h c _ (mem_uc main_v130 (by decide)), h c _ (mem_uc main_v131 (by decide)),
         (h c _ (mem_uc main_arg0 (by decide))).trans (W13_main_arg0 m ρ c),
         (h c _ (mem_uc main_arg1 (by decide))).trans (W13_main_arg1 m ρ c),
         (h c _ (mem_uc main_arg2 (by decide))).trans (W13_main_arg2 m ρ c),
         (h c _ (mem_uc main_arg3 (by decide))).trans (W13_main_arg3 m ρ c),
         (h c _ (mem_uc main_arg4 (by decide))).trans (W13_main_arg4 m ρ c),
         (h c _ (mem_uc main_arg5 (by decide))).trans (W13_main_arg5 m ρ c),
         (h c _ (mem_uc main_arg6 (by decide))).trans (W13_main_arg6 m ρ c),
         (h c _ (mem_uc main_arg7 (by decide))).trans (W13_main_arg7 m ρ c),
         (h c _ (mem_uc main_arg8 (by decide))).trans (W13_main_arg8 m ρ c),
         (h c _ (mem_uc main_arg9 (by decide))).trans (W13_main_arg9 m ρ c),
         (h c _ (mem_uc main_arg10 (by decide))).trans (W13_main_arg10 m ρ c),
         (h c _ (mem_uc main_arg11 (by decide))).trans (W13_main_arg11 m ρ c),
         (h c _ (mem_uc main_arg12 (by decide))).trans (W13_main_arg12 m ρ c),
         (h c _ (mem_uc main_arg13 (by decide))).trans (W13_main_arg13 m ρ c),
         (h c _ (mem_uc main_arg14 (by decide))).trans (W13_main_arg14 m ρ c),
         (h c _ (mem_uc main_arg15 (by decide))).trans (W13_main_arg15 m ρ c),
         (h c _ (mem_uc main_arg16 (by decide))).trans (W13_main_arg16 m ρ c),
         (h c _ (mem_uc main_arg17 (by decide))).trans (W13_main_arg17 m ρ c),
         (h c _ (mem_uc main_arg18 (by decide))).trans (W13_main_arg18 m ρ c),
         (h c _ (mem_uc main_arg19 (by decide))).trans (W13_main_arg19 m ρ c),
         (h c _ (mem_uc main_arg20 (by decide))).trans (W13_main_arg20 m ρ c),
         (h c _ (mem_uc main_arg21 (by decide))).trans (W13_main_arg21 m ρ c),
         (h c _ (mem_uc main_arg22 (by decide))).trans (W13_main_arg22 m ρ c),
         (h c _ (mem_uc main_arg23 (by decide))).trans (W13_main_arg23 m ρ c),
         (h c _ (mem_uc main_arg24 (by decide))).trans (W13_main_arg24 m ρ c),
         (h c _ (mem_uc main_arg25 (by decide))).trans (W13_main_arg25 m ρ c)⟩) (run_kept m ρ)

end Cert.KernelIdeal.Gen
-- ==== Proof.Ref0.lean ====
/- The reference's convolutions and fused features, read as real arrays. -/
module

public import proofs.«01_k».proof.Proof.SpecOut
public import proofs.«01_k».proof.Proof.Scatter
public import proofs.«01_k».proof.Proof.Gen.ReferenceIdeal.Read

@[expose] public section
set_option maxRecDepth 16384
noncomputable section
namespace Cert.Val
open Idealize.ShloMosaic Idealize.ShloMosaic.TcCoe Idealize.ShloMosaic.Tactic Idealize.SL Cert.ReferenceIdeal Cert.ReferenceIdeal.Gen Cert.ReferenceIdeal.Read
open scoped BigOperators

/-- The pattern of the number of pixels. -/
theorem K_pixels : K 0x46800000#32 = 16384 := by
  rw [K_eq _ (by decide) (by decide)]
  rw [show (0x46800000#32).extractLsb' 31 1 = 0#1 by decide, show ((0x46800000#32).extractLsb' 0 23).toNat = 0 by decide,
    show ((0x46800000#32).extractLsb' 23 8).toNat = 141 by decide]; norm_num

/-- The reference's effective weights. -/
theorem ref_weff (w : Fin 96 → Fin 96 → Fin 3 → Fin 3 → ℝ) (lm : Fin 96 → Fin 96 → ℝ) (th : Fin 1 → ℝ) :
    val_main_v15 (F := Ideal) (up4 w) (up2 lm) (up1 th) = (up4 (Spec.weff w lm th) : FVec Ideal S96x96x3x3 .f32) := by
  refine eq_up4 _ _ fun o k i j => ?_
  unfold val_main_v15 scatter_S96x96x3x3_S2_S96x96_01_23_23_0
  refine (scatter_centre _ _ _ (fun k => ?_) _ _ o k i j).trans ?_
  · generalize hk : k = kk
    rw [eq_ix1 kk]
    unfold val_main_v14 val_main_v12 val_main_v13 val_main_c val_main_c_0
    pointwise
    exact ite_self _
  · unfold val_main_v11 val_main_v10 val_main_v9 val_main_v8 val_main_v7 val_main_v6 val_main_v5 val_main_v4 val_main_v3 val_main_cst
    pointwise
    simp only [Spec.weff, up4_ix, up2_ix, up1_ix, coe_sum]
    split <;> norm_cast

/-- The reference's padded image. -/
theorem ref_pad (x : Fin 4 → Fin 96 → Fin 128 → Fin 128 → ℝ) (b : Fin 4) (c : Fin 96) (i j : Fin 130) :
    val_main_v16 (F := Ideal) (up4 x) (ix4 b c i j) = ((Spec.pad (x b c) i.val j.val : ℝ) : EReal) := by
  unfold val_main_v16 val_main_call0_v0 val_main_c_1
  pointwise
  rw [show (FloatOps.sitofp (F := Ideal) FTy.f32 (0#32) : EReal) = 0 from ?_]
  · unfold Spec.pad
    split
    · rw [dif_pos (by omega)]; rfl
    · rw [dif_neg (by omega)]; rfl
  · norm_num [FloatOps.sitofp]

/-- One shifted product of the reference's convolution. -/
def refTap (P : FVec Ideal S4x96x130x130 .f32) (W : FVec Ideal S96x96x3x3 .f32) (i j : Fin 3)
    (hP : S4x96x130x130.Slices ![0, 0, i.val, j.val] S4x96x128x128) (hW : S96x96x3x3.Slices ![0, 0, i.val, j.val] S96x96x1x1) :
    FVec Ideal S4x16384x96 .f32 :=
  Host.dotGeneral dot_S4x96x16384_S96x96_S4x16384x96_1_1_02_0_n_n none
    (shapeCast S4x96x16384 (extractStridedSlice S4x96x128x128 ![0, 0, i.val, j.val] P hP) shapeCasts_S4x96x128x128_S4x96x16384)
    (shapeCast S96x96 (extractStridedSlice S96x96x1x1 ![0, 0, i.val, j.val] W hW) shapeCasts_S96x96x1x1_S96x96)

/-- Its value. -/
theorem refTap_eq (x : Fin 4 → Fin 96 → Fin 128 → Fin 128 → ℝ) (P : FVec Ideal S4x96x130x130 .f32)
    (hp : ∀ b c (i j : Fin 130), P (ix4 b c i j) = ((Spec.pad (x b c) i.val j.val : ℝ) : EReal))
    (W : Fin 96 → Fin 96 → Fin 3 → Fin 3 → ℝ) (i j : Fin 3) (hP hW) :
    refTap P (up4 W) i j hP hW
      = (up3 (fun b p o => ∑ c, W o c i j * Spec.pad (x b c) (p.val / 128 + i.val) (p.val % 128 + j.val)) : FVec Ideal S4x16384x96 .f32) := by
  refine eq_up3 _ _ fun b p o => ?_
  unfold refTap
  pointwise
  simp only [hp, up4_ix, ← EReal.coe_mul, coe_sum]
  refine congrArg _ (Finset.sum_congr rfl fun c _ => ?_)
  rw [mul_comm, Nat.add_comm (p.val / 128), Nat.add_comm (p.val % 128)]

/-- The sum of the nine products, as an image. -/
def refConv (P : FVec Ideal S4x96x130x130 .f32) (W : FVec Ideal S96x96x3x3 .f32) : FVec Ideal S4x96x128x128 .f32 :=
  shapeCast S4x96x128x128 (transpose S4x96x16384 [0, 2, 1]
    (addf (addf (addf (addf (addf (addf (addf (addf
      (refTap P W 0 0 slices_S4x96x130x130_S4x96x128x128_0_0_0_0 slices_S96x96x3x3_S96x96x1x1_0_0_0_0)
      (refTap P W 0 1 slices_S4x96x130x130_S4x96x128x128_0_0_0_1 slices_S96x96x3x3_S96x96x1x1_0_0_0_1))
      (refTap P W 0 2 slices_S4x96x130x130_S4x96x128x128_0_0_0_2 slices_S96x96x3x3_S96x96x1x1_0_0_0_2))
      (refTap P W 1 0 slices_S4x96x130x130_S4x96x128x128_0_0_1_0 slices_S96x96x3x3_S96x96x1x1_0_0_1_0))
      (refTap P W 1 1 slices_S4x96x130x130_S4x96x128x128_0_0_1_1 slices_S96x96x3x3_S96x96x1x1_0_0_1_1))
      (refTap P W 1 2 slices_S4x96x130x130_S4x96x128x128_0_0_1_2 slices_S96x96x3x3_S96x96x1x1_0_0_1_2))
      (refTap P W 2 0 slices_S4x96x130x130_S4x96x128x128_0_0_2_0 slices_S96x96x3x3_S96x96x1x1_0_0_2_0))
      (refTap P W 2 1 slices_S4x96x130x130_S4x96x128x128_0_0_2_1 slices_S96x96x3x3_S96x96x1x1_0_0_2_1))
      (refTap P W 2 2 slices_S4x96x130x130_S4x96x128x128_0_0_2_2 slices_S96x96x3x3_S96x96x1x1_0_0_2_2))
    transposes_S4x16384x96_S4x96x16384_0_2_1) shapeCasts_S4x96x16384_S4x96x128x128

/-- Its value: the convolution. -/
theorem refConv_eq (x : Fin 4 → Fin 96 → Fin 128 → Fin 128 → ℝ) (P : FVec Ideal S4x96x130x130 .f32)
    (hp : ∀ b c (i j : Fin 130), P (ix4 b c i j) = ((Spec.pad (x b c) i.val j.val : ℝ) : EReal)) (W : Fin 96 → Fin 96 → Fin 3 → Fin 3 → ℝ) :
    refConv P (up4 W) = (up4 (fun b o h v => Spec.conv (x b) W o h v) : FVec Ideal S4x96x128x128 .f32) := by
  refine eq_up4 _ _ fun b o h v => ?_
  unfold refConv
  simp only [refTap_eq x P hp W]
  pointwise
  have e1 : (h.val * 128 + v.val) / 128 = h.val := by omega
  have e2 : (h.val * 128 + v.val) % 128 = v.val := by omega
  simp only [up3_ix, ← EReal.coe_add]
  refine congrArg _ ?_
  unfold Spec.conv
  simp only [Fin.sum_univ_three]
  simp only [← add_assoc]
  simp only [e1, e2]
  rfl

/-- The first convolution. -/
theorem ref_conv1 (x : Fin 4 → Fin 96 → Fin 128 → Fin 128 → ℝ) (w lm th) :
    val_main_v71 (F := Ideal) (up4 x) (up4 w) (up2 lm) (up1 th) = (up4 (fun b o h v => Spec.conv (x b) (Spec.weff w lm th) o h v) : FVec Ideal S4x96x128x128 .f32) := by
  rw [← refConv_eq x _ (ref_pad x), ← ref_weff]
  rfl

/-- The second convolution. -/
theorem ref_conv2 (x : Fin 4 → Fin 96 → Fin 128 → Fin 128 → ℝ) (w lm th) :
    val_main_v140 (F := Ideal) (up4 x) (up4 w) (up2 lm) (up1 th) = (up4 (fun b o h v => Spec.conv (x b) (Spec.weff w lm th) o h v) : FVec Ideal S4x96x128x128 .f32) :=
  ref_conv1 x w lm th

/-- The mean over the pixels of the difference of two images. -/
def diffMean (x y : Fin 4 → Fin 96 → Fin 128 → Fin 128 → ℝ) (b : Fin 4) (o : Fin 96) : ℝ := (∑ i, ∑ j, (x b o i j - y b o i j)) / 16384

/-- The logistic function of that mean. -/
theorem ref_gate (x y : Fin 4 → Fin 96 → Fin 128 → Fin 128 → ℝ) :
    val_main_v151 (F := Ideal) (up4 x) (up4 y) = (up4 (fun b o _ _ => (1 + Real.exp (-diffMean x y b o))⁻¹) : FVec Ideal S4x96x1x1 .f32) := by
  refine eq_up4 _ _ fun b o i j => ?_
  unfold val_main_v151 val_main_v150 val_main_v149 val_main_v148 val_main_v147 val_main_v146 val_main_v145 val_main_v144 val_main_v143 val_main_v142
    val_main_v141 val_main_cst_6 val_main_cst_7 val_main_cst_8 val_main_cst_9
  pointwise
  simp only [up4_ix, ← EReal.coe_sub, coe_sum]
  have hp : 1 + Real.exp (-((∑ k, ∑ l, (x b o k l - y b o k l)) / 16384)) ≠ 0 := by positivity
  rw [ofBits_eq _ (by decide), K_pixels, div_coe _ _ (by norm_num), ← EReal.coe_neg, Ideal.exp_coe, ← EReal.coe_one, ← EReal.coe_add, div_coe _ _ hp, one_div]
  rfl

/-- The two gates of opposite differences add up to one. -/
theorem gates_sum (m : ℝ) : (1 + Real.exp (-m))⁻¹ + (1 + Real.exp (-(-m)))⁻¹ = 1 := by
  have h1 : (1 + Real.exp (-m)) ≠ 0 := by positivity
  have h2 : (1 + Real.exp m) ≠ 0 := by positivity
  have h3 : Real.exp m * Real.exp (-m) = 1 := by rw [← Real.exp_add, add_neg_cancel, Real.exp_zero]
  rw [neg_neg]
  field_simp
  linarith

/-- The reference's fused features, in a line along the pixels. -/
theorem ref_feat (A : Spec.Args) :
    val_main_v173 (F := Ideal) (up4 A.x1) (up4 A.x2) (up4 A.w1) (up2 A.lm1) (up1 A.th1) (up4 A.w2) (up2 A.lm2) (up1 A.th2)
      = (up3 (fun b p o => Spec.feat A b ⟨p.val / 128, by omega⟩ ⟨p.val % 128, by omega⟩ o) : FVec Ideal S4x16384x96 .f32) := by
  refine eq_up3 _ _ fun b p o => ?_
  unfold val_main_v173 val_main_v172 val_main_v171 val_main_v170 val_main_v169 val_main_v168 val_main_v167 val_main_v166 val_main_v165 val_main_v164
    val_main_v163 val_main_v2
  rw [ref_conv1, ref_conv2, show val_main_v162 (F := Ideal) (up4 A.x1) (up4 A.x2) = val_main_v151 (F := Ideal) (up4 A.x2) (up4 A.x1) from rfl, ref_gate, ref_gate]
  pointwise
  simp only [up4_ix, ← EReal.coe_add, ← EReal.coe_mul]
  have en : diffMean A.x2 A.x1 b o = -diffMean A.x1 A.x2 b o := by
    unfold diffMean
    rw [← neg_div, ← Finset.sum_neg_distrib]
    refine congrArg (fun q => q / 16384) (Finset.sum_congr rfl fun i _ => ?_)
    rw [← Finset.sum_neg_distrib]
    exact Finset.sum_congr rfl fun j _ => (neg_sub _ _).symm
  rw [en]
  have g := gates_sum (diffMean A.x1 A.x2 b o)
  refine congrArg _ ?_
  unfold Spec.feat
  generalize (1 + Real.exp (-diffMean A.x1 A.x2 b o))⁻¹ = s1 at *
  generalize (1 + Real.exp (-(-diffMean A.x1 A.x2 b o)))⁻¹ = s2 at *
  obtain rfl : s2 = 1 - s1 := by linarith
  ring

end Cert.Val
-- ==== Proof.Ref1.lean ====
/- The reference's attention step and MLP step, read as real arrays. -/
module

public import proofs.«01_k».proof.Proof.Ref0
public import proofs.«01_k».proof.Proof.Chunk

@[expose] public section
set_option maxRecDepth 16384
noncomputable section
namespace Cert.Val
open Idealize.ShloMosaic Idealize.ShloMosaic.TcCoe Idealize.ShloMosaic.Tactic Idealize.SL Cert.ReferenceIdeal Cert.ReferenceIdeal.Gen Cert.ReferenceIdeal.Read
open scoped BigOperators

/-- The mean over the channels, along a column. -/
def refMean (T : FVec Ideal S4x16384x96 .f32) : FVec Ideal S4x16384x1 .f32 :=
  Host.divf (broadcastInDim S4x16384x1 ![0, 1] bcast_S4x16384_S4x16384x1_0_1
    (Host.reduceAdd T (constant S_ .f32 0x00000000#32) reducesTo_S4x16384x96_S4x16384_d2 h_S_))
    (broadcastInDim S4x16384x1 ![] bcast_S_S4x16384x1 (constant S_ .f32 0x42C00000#32))

/-- Its value. -/
theorem refMean_eq (t : Fin 4 → Fin 16384 → Fin 96 → ℝ) :
    refMean (up3 t) = (up3 (fun b p _ => (∑ k, t b p k) / 96) : FVec Ideal S4x16384x1 .f32) := by
  refine eq_up3 _ _ fun b p k => ?_
  unfold refMean
  pointwise
  simp only [up3_ix, coe_sum]
  rw [ofBits_eq _ (by decide), K_96, div_coe _ _ (by norm_num)]

/-- The deviation from the mean. -/
def refDev (T : FVec Ideal S4x16384x96 .f32) : FVec Ideal S4x16384x96 .f32 :=
  subf T (broadcastInDim S4x16384x96 ![0, 1, 2] bcast_S4x16384x1_S4x16384x96_0_1_2 (refMean T))

/-- Its value. -/
theorem refDev_eq (t : Fin 4 → Fin 16384 → Fin 96 → ℝ) :
    refDev (up3 t) = (up3 (fun b p k => t b p k - Spec.mean (t b p)) : FVec Ideal S4x16384x96 .f32) := by
  refine eq_up3 _ _ fun b p k => ?_
  unfold refDev
  rw [refMean_eq]
  pointwise
  rfl

/-- The reference's layer normalization. -/
def refLn (T : FVec Ideal S4x16384x96 .f32) (g b : FVec Ideal S96 .f32) : FVec Ideal S4x16384x96 .f32 :=
  addf (mulf (mulf (refDev T) (broadcastInDim S4x16384x96 ![0, 1, 2] bcast_S4x16384x1_S4x16384x96_0_1_2
      (Host.rsqrt (addf (refMean (mulf (refDev T) (refDev T))) (broadcastInDim S4x16384x1 ![] bcast_S_S4x16384x1 (constant S_ .f32 0x3727C5AC#32))))))
    (broadcastInDim S4x16384x96 ![0, 1, 2] bcast_S1x1x96_S4x16384x96_0_1_2 (broadcastInDim S1x1x96 ![2] bcast_S96_S1x1x96_2 g)))
    (broadcastInDim S4x16384x96 ![0, 1, 2] bcast_S1x1x96_S4x16384x96_0_1_2 (broadcastInDim S1x1x96 ![2] bcast_S96_S1x1x96_2 b))

/-- Its value. -/
theorem refLn_eq (t : Fin 4 → Fin 16384 → Fin 96 → ℝ) (g b : Fin 96 → ℝ) :
    refLn (up3 t) (up1 g) (up1 b) = (up3 (fun n p k => Spec.ln (t n p) g b k) : FVec Ideal S4x16384x96 .f32) := by
  have sq : mulf (refDev (up3 t)) (refDev (up3 t))
      = (up3 (fun n p k => (t n p k - Spec.mean (t n p)) * (t n p k - Spec.mean (t n p))) : FVec Ideal S4x16384x96 .f32) := by
    rw [refDev_eq]
    refine eq_up3 _ _ fun n p k => ?_
    pointwise
    rfl
  refine eq_up3 _ _ fun n p k => ?_
  unfold refLn
  rw [sq, refMean_eq, refDev_eq]
  pointwise
  simp only [up3_ix, up1_ix]
  rw [ofBits_eq _ (by decide), ← EReal.coe_add]
  refine (congrArg (fun q => _ * q * _ + _) (rsqrt_coe _ (Spec.var_eps_pos (t n p)))).trans ?_
  simp only [← EReal.coe_add, ← EReal.coe_mul]
  rfl

/-- The projection of the values is the projection of the matrix and of the bias. -/
theorem proj_values (L B P : Fin 96 → ℝ) (Q : Fin 96 → Fin 96 → ℝ) :
    (∑ k, (∑ c, L c * Q k c + B k) * P k) = (∑ c, (∑ k, P k * Q k c) * L c) + ∑ k, P k * B k := by
  simp only [add_mul, Finset.sum_add_distrib, Finset.sum_mul]
  rw [Finset.sum_comm]
  refine congr (congrArg _ (Finset.sum_congr rfl fun c _ => Finset.sum_congr rfl fun k _ => ?_)) (Finset.sum_congr rfl fun k _ => ?_)
  · ring
  · ring

/-- The reference's attention step on a line of pixels. -/
theorem ref_attn (T : FVec Ideal S4x16384x96 .f32) (t : Fin 4 → Fin 16384 → Fin 96 → ℝ) (hT : T = up3 t) (A : Spec.Args) :
    addf T (addf (Host.dotGeneral (φ₂ := .f32) dot_S4x16384x96_S96x96_S4x16384x96_2_0_01_1_n_n none
        (addf (Host.dotGeneral (φ₂ := .f32) dot_S4x16384x96_S96x96_S4x16384x96_2_0_01_1_n_n none (refLn T (up1 A.g1) (up1 A.b1)) (val_main_v1 (F := Ideal) (up2 A.qw) : FVec Ideal S96x96 .f32))
          (val_main_v201 (F := Ideal) (up1 A.qb)))
        (val_main_v203 (F := Ideal) (up2 A.pw) : FVec Ideal S96x96 .f32)) (val_main_v206 (F := Ideal) (up1 A.pb)))
      = (up3 (fun b p o => Spec.attn (Spec.wc A) (Spec.bc A) A.g1 A.b1 (t b p) o) : FVec Ideal S4x16384x96 .f32) := by
  subst hT
  rw [refLn_eq]
  refine eq_up3 _ _ fun b p o => ?_
  unfold val_main_v1 val_main_v0 val_main_v201 val_main_v200 val_main_v199 val_main_v203 val_main_v206 val_main_v205
  pointwise
  simp only [up3_ix, up2_ix, up1_ix, ← EReal.coe_mul, coe_sum, ← EReal.coe_add]
  refine congrArg _ ?_
  unfold Spec.attn Spec.wc Spec.bc
  refine (congrArg (fun q => t b p o + (q + A.pb o)) (proj_values (Spec.ln (t b p) A.g1 A.b1) (fun k => A.qb ⟨192 + k.val, by omega⟩) (A.pw o)
    (fun k c => A.qw ⟨192 + k.val, by omega⟩ c))).trans ?_
  ring

/-- A constant at every hidden unit. -/
def hidK (b : BitVec 32) : FVec Ideal S4x16384x384 .f32 := broadcastInDim S4x16384x384 ![] bcast_S_S4x16384x384 (constant S_ .f32 b)

/-- The reference's error function at `Z`, before the sign is put in. -/
def refErf (Z : FVec Ideal S4x16384x384 .f32) (T : FVec Ideal S4x16384x384 .f32) : FVec Ideal S4x16384x384 .f32 :=
  subf (hidK 0x3F800000#32) (mulf (addf (subf (addf (subf (mulf (hidK 0x3E827906#32) T) (mulf (hidK 0x3E91A98E#32) (mulf T T)))
    (mulf (hidK 0x3FB5F0E3#32) (mulf (mulf T T) T))) (mulf (hidK 0x3FBA00E3#32) (mulf (mulf T T) (mulf T T))))
    (mulf (hidK 0x3F87DC22#32) (mulf T (mulf (mulf T T) (mulf T T))))) (Host.exp (Host.negf (mulf Z Z))))

/-- The variable of the error function's polynomial. -/
def refT (Z : FVec Ideal S4x16384x384 .f32) : FVec Ideal S4x16384x384 .f32 :=
  Host.divf (hidK 0x3F800000#32) (addf (hidK 0x3F800000#32) (mulf (hidK 0x3EA7BA05#32) (Host.absf Z)))

/-- The reference's gelu. -/
def refGelu (H : FVec Ideal S4x16384x384 .f32) : FVec Ideal S4x16384x384 .f32 :=
  mulf (mulf (hidK 0x3F000000#32) H) (addf (hidK 0x3F800000#32)
    (select (cmpf .olt (mulf H (hidK 0x3F3504F3#32)) (hidK 0x00000000#32))
      (Host.negf (refErf (mulf H (hidK 0x3F3504F3#32)) (refT (mulf H (hidK 0x3F3504F3#32)))))
      (refErf (mulf H (hidK 0x3F3504F3#32)) (refT (mulf H (hidK 0x3F3504F3#32))))))

/-- A constant at every hidden unit, at an index. -/
theorem hidK_apply (b : BitVec 32) (h : (b.extractLsb' 23 8).toNat ≠ 255) : hidK b = up3 (fun _ _ _ => K b) := by
  funext i; exact ofBits_eq b h

/-- The polynomial's variable on real arrays. -/
theorem refT_eq (z : Fin 4 → Fin 16384 → Fin 384 → ℝ) :
    refT (up3 z) = up3 (fun b p j => 1 / (1 + K 0x3EA7BA05#32 * |z b p j|)) := by
  refine eq_up3 _ _ fun b p j => ?_
  have hp : 1 + K 0x3EA7BA05#32 * |z b p j| ≠ 0 := by
    have h1 : 0 < K 0x3EA7BA05#32 := K_pos _ (by decide) (by decide) (by decide)
    have h2 := mul_nonneg h1.le (abs_nonneg (z b p j))
    linarith
  unfold refT
  rw [hidK_apply _ (by decide), hidK_apply _ (by decide)]
  pointwise
  simp only [up3_ix]
  rw [K_one, Ideal.absf_def, abs_coe, ← EReal.coe_mul, ← EReal.coe_add, div_coe _ _ hp]

/-- The error function stage on real arrays. -/
theorem refErf_eq (z : Fin 4 → Fin 16384 → Fin 384 → ℝ) :
    refErf (up3 z) (refT (up3 z)) = up3 (fun b p j => Spec.erfPos |z b p j|) := by
  rw [refT_eq]
  refine eq_up3 _ _ fun b p j => ?_
  unfold refErf
  rw [hidK_apply 0x3F800000#32 (by decide), hidK_apply 0x3E827906#32 (by decide), hidK_apply 0x3E91A98E#32 (by decide),
    hidK_apply 0x3FB5F0E3#32 (by decide), hidK_apply 0x3FBA00E3#32 (by decide), hidK_apply 0x3F87DC22#32 (by decide)]
  pointwise
  simp only [up3_ix, K_one]
  simp only [← EReal.coe_add, ← EReal.coe_mul, ← EReal.coe_sub, ← EReal.coe_neg, Ideal.exp_coe]
  refine congrArg _ ?_
  unfold Spec.erfPos
  rw [show -|z b p j| * |z b p j| = -(z b p j * z b p j) by rw [neg_mul, abs_mul_abs_self]]
  ring

/-- Its value. -/
theorem refGelu_eq (h : Fin 4 → Fin 16384 → Fin 384 → ℝ) :
    refGelu (up3 h) = (up3 (fun b p j => Spec.gelu (h b p j)) : FVec Ideal S4x16384x384 .f32) := by
  have hc : 0 < K 0x3F3504F3#32 := K_pos _ (by decide) (by decide) (by decide)
  have hz : mulf (up3 h) (hidK 0x3F3504F3#32) = (up3 (fun b p j => h b p j * K 0x3F3504F3#32) : FVec Ideal S4x16384x384 .f32) := by
    refine eq_up3 _ _ fun b p j => ?_
    rw [hidK_apply _ (by decide)]
    pointwise
    simp only [up3_ix, ← EReal.coe_mul]
  refine eq_up3 _ _ fun b p j => ?_
  unfold refGelu
  rw [hz, refErf_eq, hidK_apply 0x3F800000#32 (by decide), hidK_apply 0x3F000000#32 (by decide), hidK_apply 0x00000000#32 (by decide)]
  pointwise
  have h0 : (up3 (fun _ _ _ => K 0x00000000#32) : FVec Ideal S4x16384x384 .f32) (ix3 b p j) = ((0 : ℝ) : EReal) := by rw [up3_ix, K_zero]
  unfold Spec.gelu
  rw [h0]
  simp only [up3_ix, abs_mul, abs_of_pos hc, EReal.coe_lt_coe_iff]
  by_cases hx : h b p j < 0
  · rw [if_pos (mul_neg_of_neg_of_pos hx hc), if_pos hx, K_one, K_half]
    simp only [← EReal.coe_add, ← EReal.coe_mul, ← EReal.coe_neg]
  · rw [if_neg (not_lt.2 (mul_nonneg (not_lt.1 hx) hc.le)), if_neg hx, K_one, K_half]
    simp only [← EReal.coe_add, ← EReal.coe_mul]

end Cert.Val
-- ==== Proof.Ref2.lean ====
/- The reference's MLP step, its transform, its gate and its results, read as real arrays. -/
module

public import proofs.«01_k».proof.Proof.Ref1
public import proofs.«01_k».proof.Proof.SpecOut

@[expose] public section
set_option maxRecDepth 16384
noncomputable section
namespace Cert.Val
open Idealize.ShloMosaic Idealize.ShloMosaic.TcCoe Idealize.ShloMosaic.Tactic Idealize.SL Cert.ReferenceIdeal Cert.ReferenceIdeal.Gen Cert.ReferenceIdeal.Read
open scoped BigOperators

/-- The reference's hidden layer on a line of pixels. -/
theorem ref_hid (t : Fin 4 → Fin 16384 → Fin 96 → ℝ) (A : Spec.Args) :
    addf (Host.dotGeneral (φ₂ := .f32) dot_S4x16384x96_S96x384_S4x16384x384_2_0_01_1_n_n none (refLn (up3 t) (up1 A.g2) (up1 A.b2))
        (val_main_v233 (F := Ideal) (up2 A.m1))) (val_main_v236 (F := Ideal) (up1 A.mb1))
      = (up3 (fun b p j => Spec.hid A.m1 A.mb1 A.g2 A.b2 (t b p) j) : FVec Ideal S4x16384x384 .f32) := by
  rw [refLn_eq]
  refine eq_up3 _ _ fun b p j => ?_
  unfold val_main_v233 val_main_v236 val_main_v235
  pointwise
  simp only [up3_ix, up2_ix, up1_ix, ← EReal.coe_mul, coe_sum, ← EReal.coe_add]
  refine congrArg _ ?_
  unfold Spec.hid
  exact congrArg (· + _) (Finset.sum_congr rfl fun k _ => mul_comm _ _)

/-- The reference's MLP step on a line of pixels. -/
theorem ref_mlp (t : Fin 4 → Fin 16384 → Fin 96 → ℝ) (A : Spec.Args) :
    addf (up3 t) (addf (Host.dotGeneral (φ₂ := .f32) dot_S4x16384x384_S384x96_S4x16384x96_2_0_01_1_n_n none
        (refGelu (addf (Host.dotGeneral (φ₂ := .f32) dot_S4x16384x96_S96x384_S4x16384x384_2_0_01_1_n_n none (refLn (up3 t) (up1 A.g2) (up1 A.b2))
          (val_main_v233 (F := Ideal) (up2 A.m1))) (val_main_v236 (F := Ideal) (up1 A.mb1))))
        (val_main_v284 (F := Ideal) (up2 A.m2))) (val_main_v287 (F := Ideal) (up1 A.mb2)))
      = (up3 (fun b p o => Spec.mlp A.m1 A.mb1 A.m2 A.mb2 A.g2 A.b2 (t b p) o) : FVec Ideal S4x16384x96 .f32) := by
  rw [ref_hid, refGelu_eq]
  refine eq_up3 _ _ fun b p o => ?_
  unfold val_main_v284 val_main_v287 val_main_v286
  pointwise
  simp only [up3_ix, up2_ix, up1_ix, ← EReal.coe_mul, coe_sum, ← EReal.coe_add]
  refine congrArg _ ?_
  unfold Spec.mlp
  rw [add_assoc]
  exact congrArg (fun q => _ + (q + _)) (Finset.sum_congr rfl fun k _ => mul_comm _ _)

/-- The reference's pixels after the attention step. -/
theorem ref_tok (A : Spec.Args) :
    val_main_v208 (F := Ideal) (up4 A.x1) (up4 A.x2) (up4 A.w1) (up2 A.lm1) (up1 A.th1) (up4 A.w2) (up2 A.lm2) (up1 A.th2)
        (up1 A.g1) (up1 A.b1) (up2 A.qw) (up1 A.qb) (up2 A.pw) (up1 A.pb)
      = up3 (fun b p o => Spec.attn (Spec.wc A) (Spec.bc A) A.g1 A.b1 (Spec.feat A b ⟨p.val / 128, by omega⟩ ⟨p.val % 128, by omega⟩) o) :=
  ref_attn _ _ (ref_feat A) A

/-- The reference's pixels after the MLP step. -/
theorem ref_line (A : Spec.Args) :
    val_main_v289 (F := Ideal) (up4 A.x1) (up4 A.x2) (up4 A.w1) (up2 A.lm1) (up1 A.th1) (up4 A.w2) (up2 A.lm2) (up1 A.th2)
        (up1 A.g1) (up1 A.b1) (up2 A.qw) (up1 A.qb) (up2 A.pw) (up1 A.pb) (up1 A.g2) (up1 A.b2) (up2 A.m1) (up1 A.mb1) (up2 A.m2) (up1 A.mb2)
      = up3 (fun b p o => Spec.cross A b o ⟨p.val / 128, by omega⟩ ⟨p.val % 128, by omega⟩) := by
  refine Eq.trans ?_ (ref_mlp (fun b p => Spec.attn (Spec.wc A) (Spec.bc A) A.g1 A.b1 (Spec.feat A b ⟨p.val / 128, by omega⟩ ⟨p.val % 128, by omega⟩)) A)
  rw [← ref_tok A]
  rfl

/-- The reference's fused image. -/
theorem ref_cross (A : Spec.Args) :
    val_main_v291 (F := Ideal) (up4 A.x1) (up4 A.x2) (up4 A.w1) (up2 A.lm1) (up1 A.th1) (up4 A.w2) (up2 A.lm2) (up1 A.th2)
        (up1 A.g1) (up1 A.b1) (up2 A.qw) (up1 A.qb) (up2 A.pw) (up1 A.pb) (up1 A.g2) (up1 A.b2) (up2 A.m1) (up1 A.mb1) (up2 A.m2) (up1 A.mb2)
      = (up4 (Spec.cross A) : FVec Ideal S4x96x128x128 .f32) := by
  refine eq_up4 _ _ fun b o h v => ?_
  unfold val_main_v291 val_main_v290
  rw [ref_line]
  pointwise
  rw [up3_ix]
  have h1 : (⟨(h.val * 128 + v.val) / 128, by omega⟩ : Fin 128) = h := Fin.ext (by show (h.val * 128 + v.val) / 128 = h.val; omega)
  have h2 : (⟨(h.val * 128 + v.val) % 128, by omega⟩ : Fin 128) = v := Fin.ext (by show (h.val * 128 + v.val) % 128 = v.val; omega)
  exact congrArg₂ (fun p q => ((Spec.cross A b o p q : ℝ) : EReal)) h1 h2

/-- The reference's energies in a line, from a fused image. -/
def refLine (X : FVec Ideal S4x96x128x128 .f32) (D E : FVec Ideal S128x128 .f32) : FVec Ideal S4x16384 .f32 :=
  shapeCast _ (Host.divf (Host.reduceAdd (Host.absf (Host.dotGeneral (φ₁ := .f32) (φ₂ := .f32) dot_S4x96x128x128_S128x128_S4x96x128x128_3_1_012_0_n_n none
    (transpose S4x96x128x128 [0, 1, 3, 2] (Host.dotGeneral (φ₁ := .f32) (φ₂ := .f32) dot_S4x96x128x128_S128x128_S4x96x128x128_2_1_013_0_n_n none X D)
      transposes_S4x96x128x128_S4x96x128x128_0_1_3_2) E)) (constant S_ .f32 0x00000000#32) reducesTo_S4x96x128x128_S4x128x128_d1 h_S_)
    (broadcastInDim S4x128x128 ![] bcast_S_S4x128x128 (constant S_ .f32 0x42C00000#32))) shapeCasts_S4x128x128_S4x16384

/-- Its value. -/
theorem refLine_eq (A : Spec.Args) : refLine (up4 (Spec.cross A)) (up2 A.dh) (up2 A.dw) = up2 (Spec.line A) := by
  refine eq_up2 _ _ fun b p => ?_
  unfold refLine
  pointwise
  simp only [up4_ix, up2_ix, ← EReal.coe_mul, coe_sum, Ideal.absf_def, abs_coe]
  rw [ofBits_eq _ (by decide), K_96, div_coe _ _ (by norm_num)]
  refine congrArg _ ?_
  unfold Spec.line Spec.energy Spec.dct
  exact congrArg (· / 96) (Finset.sum_congr rfl fun c _ => congrArg abs (Finset.sum_congr rfl fun v _ =>
    congrArg (· * _) (Finset.sum_congr rfl fun h _ => mul_comm _ _)))

/-- The reference's gate, from the largest energies. -/
def refGate (T : FVec Ideal S4x96 .f32) (A : Spec.Args) : FVec Ideal S4x1 .f32 :=
  Host.divf (val_main_v315 (F := Ideal)) (addf (val_main_v313 (F := Ideal)) (Host.exp (Host.negf
    (addf (Host.dotGeneral (φ₂ := .f32) dot_S4x24_S24x1_S4x1_1_0_0_1_n_n none
      (maximumf (addf (Host.dotGeneral (φ₂ := .f32) dot_S4x96_S96x24_S4x24_1_0_0_1_n_n none T (val_main_v300 (F := Ideal) (up2 A.f1)))
        (val_main_v303 (F := Ideal) (up1 A.fb1))) (val_main_call3_v0 (F := Ideal)))
      (val_main_v306 (F := Ideal) (up2 A.f2))) (val_main_v309 (F := Ideal) (up1 A.fb2))))))

/-- Its value. -/
theorem refGate_eq (A : Spec.Args) :
    refGate (up2 fun b y => Spec.top (k := 96) (by norm_num) (Spec.line A b) y) A = up2 (fun b _ => Spec.att A b) := by
  refine eq_up2 _ _ fun b z => ?_
  obtain rfl : z = 0 := Subsingleton.elim _ _
  unfold refGate val_main_v315 val_main_v313 val_main_v300 val_main_v303 val_main_v302 val_main_call3_v0 val_main_v306 val_main_v309 val_main_v308
    val_main_cst_40 val_main_cst_39 val_main_call3_cst
  pointwise
  simp only [up2_ix, up1_ix, ← EReal.coe_mul, coe_sum, ← EReal.coe_add]
  have h0 : ∀ r : ℝ, max (r : EReal) 0 = ((max r 0 : ℝ) : EReal) := fun r => (EReal.coe_strictMono.monotone.map_max (a := r) (b := 0)).symm
  simp only [h0, ← EReal.coe_mul, coe_sum, ← EReal.coe_add, ← EReal.coe_neg, Ideal.exp_coe]
  rw [← EReal.coe_one, ← EReal.coe_add, div_coe _ _ (by positivity), one_div]
  rfl

/-- The first entries of each line, at an index. -/
theorem slice_top (f : FVec Ideal S4x16384 .f32) (b : Fin 4) (y : Fin 96) :
    extractStridedSlice S4x96 (fun _ => 0) f sliceFits_S4x16384_S4x96 (ix2 b y) = f (ix2 b ⟨y.val, by omega⟩) := by
  refine congrArg f (funext fun a => ?_)
  match a with
  | ⟨0, _⟩ => exact Fin.ext (Nat.zero_add _)
  | ⟨1, _⟩ => exact Fin.ext (Nat.zero_add _)

/-- An index of a line with its place replaced. -/
theorem along_ix2 (b : Fin 4) (p k : Fin 16384) :
    Shape.Idx.along (s := S4x16384) (ix2 b p) (⟨1, Nat.one_lt_two⟩ : Fin 2) k = ix2 b k := by
  funext a
  match a with
  | ⟨0, _⟩ => rfl
  | ⟨1, _⟩ => rfl

/-- The reference's largest energies. -/
theorem ref_top (l : Fin 4 → Fin 16384 → ℝ) :
    (Host.topK S4x96 1 (FloatOps.cmpfTotal (F := Ideal) (φ := .f32) .gt) (up2 l : FVec Ideal S4x16384 .f32) sliceFits_S4x16384_S4x96).1
      = (up2 (fun b y => Spec.top (k := 96) (by norm_num) (l b) y) : FVec Ideal S4x96 .f32) := by
  refine eq_up2 _ _ fun b y => ?_
  unfold Host.topK Host.sort2
  dsimp only
  rw [dif_pos (by decide)]
  unfold Spec.top Spec.desc
  simp only [Ideal.cmpfTotal_def]
  rw [slice_top]
  beta_reduce
  refine ((congrArg (up2 l) (along_ix2 b _ _)).trans (up2_ix l b _)).trans ?_
  refine congrArg (fun q => ((l b q : ℝ) : EReal)) ?_
  refine congrArg (fun q => sortedFrom q _) (funext fun k => funext fun k' => ?_)
  refine (congrArg₂ (fun u w : EReal => Ideal.cmp CmpDirection.gt.ordered u w == 1#1) ((congrArg (up2 l) (along_ix2 b _ _)).trans (up2_ix l b k))
    ((congrArg (up2 l) (along_ix2 b _ _)).trans (up2_ix l b k'))).trans ?_
  unfold Ideal.cmp
  by_cases hlt : l b k' < l b k
  · simp [CmpDirection.ordered, hlt]
  · simp [CmpDirection.ordered, hlt]

/-- The reference's gate. -/
theorem ref_att (A : Spec.Args) :
    val_main_v316 (F := Ideal) (up4 A.x1) (up4 A.x2) (up4 A.w1) (up2 A.lm1) (up1 A.th1) (up4 A.w2) (up2 A.lm2) (up1 A.th2)
        (up1 A.g1) (up1 A.b1) (up2 A.qw) (up1 A.qb) (up2 A.pw) (up1 A.pb) (up1 A.g2) (up1 A.b2) (up2 A.m1) (up1 A.mb1) (up2 A.m2) (up1 A.mb2)
        (up2 A.f1) (up1 A.fb1) (up2 A.f2) (up1 A.fb2) (up2 A.dh) (up2 A.dw)
      = (up2 (fun b _ => Spec.att A b) : FVec Ideal S4x1 .f32) := by
  rw [← refGate_eq, ← ref_top, ← refLine_eq, ← ref_cross]
  rfl

/-- The reference's first result. -/
theorem ref_out1 (A : Spec.Args) :
    val_main_v321 (F := Ideal) (up4 A.x1) (up4 A.x2) (up4 A.w1) (up2 A.lm1) (up1 A.th1) (up4 A.w2) (up2 A.lm2) (up1 A.th2)
        (up1 A.g1) (up1 A.b1) (up2 A.qw) (up1 A.qb) (up2 A.pw) (up1 A.pb) (up1 A.g2) (up1 A.b2) (up2 A.m1) (up1 A.mb1) (up2 A.m2) (up1 A.mb2)
        (up2 A.f1) (up1 A.fb1) (up2 A.f2) (up1 A.fb2) (up2 A.dh) (up2 A.dw)
      = (up4 (Spec.out1 A) : FVec Ideal S4x96x128x128 .f32) := by
  refine eq_up4 _ _ fun b o h v => ?_
  unfold val_main_v321 val_main_v320 val_main_v319 val_main_v318 val_main_v317
  rw [ref_cross, ref_att]
  pointwise
  simp only [up4_ix, up2_ix, ← EReal.coe_mul, ← EReal.coe_add]
  refine congrArg _ ?_
  unfold Spec.out1
  ring

/-- The reference's second result. -/
theorem ref_out2 (A : Spec.Args) :
    val_main_v322 (F := Ideal) (up4 A.x1) (up4 A.x2) (up4 A.w1) (up2 A.lm1) (up1 A.th1) (up4 A.w2) (up2 A.lm2) (up1 A.th2)
        (up1 A.g1) (up1 A.b1) (up2 A.qw) (up1 A.qb) (up2 A.pw) (up1 A.pb) (up1 A.g2) (up1 A.b2) (up2 A.m1) (up1 A.mb1) (up2 A.m2) (up1 A.mb2)
        (up2 A.f1) (up1 A.fb1) (up2 A.f2) (up1 A.fb2) (up2 A.dh) (up2 A.dw)
      = (up4 (Spec.out2 A) : FVec Ideal S4x96x128x128 .f32) := by
  refine eq_up4 _ _ fun b o h v => ?_
  unfold val_main_v322 val_main_v320 val_main_v319 val_main_v318 val_main_v317
  rw [ref_cross, ref_att]
  pointwise
  simp only [up4_ix, up2_ix, ← EReal.coe_mul, ← EReal.coe_add]
  refine congrArg _ ?_
  unfold Spec.out2
  ring

end Cert.Val
-- ==== Proof.RefValue.lean ====
/- The reference's results, from arrays that hold the real arguments. -/
module

public import proofs.«01_k».proof.Proof.Ref2

@[expose] public section
set_option maxRecDepth 16384
noncomputable section
namespace Cert.Val
open Idealize.ShloMosaic Idealize.ShloMosaic.TcCoe Idealize.SL Cert.ReferenceIdeal Cert.ReferenceIdeal.Gen Cert.ReferenceIdeal.Read

/-- Where the arguments hold the real arrays, the two results hold the problem's values. -/
theorem ref_results (A : Spec.Args)
    (y0 : FVec Ideal S4x96x128x128 .f32) (y1 : FVec Ideal S4x96x128x128 .f32) (y2 : FVec Ideal S96x96x3x3 .f32) (y3 : FVec Ideal S96x96 .f32)
      (y4 : FVec Ideal S1 .f32) (y5 : FVec Ideal S96x96x3x3 .f32) (y6 : FVec Ideal S96x96 .f32) (y7 : FVec Ideal S1 .f32) (y8 : FVec Ideal S96 .f32)
      (y9 : FVec Ideal S96 .f32) (y10 : FVec Ideal S288x96 .f32) (y11 : FVec Ideal S288 .f32) (y12 : FVec Ideal S96x96 .f32)
      (y13 : FVec Ideal S96 .f32) (y14 : FVec Ideal S96 .f32) (y15 : FVec Ideal S96 .f32) (y16 : FVec Ideal S384x96 .f32) (y17 : FVec Ideal S384 .f32)
      (y18 : FVec Ideal S96x384 .f32) (y19 : FVec Ideal S96 .f32) (y20 : FVec Ideal S24x96 .f32) (y21 : FVec Ideal S24 .f32)
      (y22 : FVec Ideal S1x24 .f32) (y23 : FVec Ideal S1 .f32) (y24 : FVec Ideal S128x128 .f32) (y25 : FVec Ideal S128x128 .f32)
    (h0 : y0 = up4 A.x1) (h1 : y1 = up4 A.x2) (h2 : y2 = up4 A.w1) (h3 : y3 = up2 A.lm1) (h4 : y4 = up1 A.th1) (h5 : y5 = up4 A.w2)
      (h6 : y6 = up2 A.lm2) (h7 : y7 = up1 A.th2) (h8 : y8 = up1 A.g1) (h9 : y9 = up1 A.b1) (h10 : y10 = up2 A.qw) (h11 : y11 = up1 A.qb)
      (h12 : y12 = up2 A.pw) (h13 : y13 = up1 A.pb) (h14 : y14 = up1 A.g2) (h15 : y15 = up1 A.b2) (h16 : y16 = up2 A.m1) (h17 : y17 = up1 A.mb1)
      (h18 : y18 = up2 A.m2) (h19 : y19 = up1 A.mb2) (h20 : y20 = up2 A.f1) (h21 : y21 = up1 A.fb1) (h22 : y22 = up2 A.f2) (h23 : y23 = up1 A.fb2)
      (h24 : y24 = up2 A.dh) (h25 : y25 = up2 A.dw) :
    val_main_v321 (F := Ideal) y0 y1 y2 y3 y4 y5 y6 y7 y8 y9 y10 y11 y12 y13 y14 y15 y16 y17 y18 y19 y20 y21 y22 y23 y24 y25 = (up4 (Spec.out1 A) : FVec Ideal S4x96x128x128 .f32)
    ∧ val_main_v322 (F := Ideal) y0 y1 y2 y3 y4 y5 y6 y7 y8 y9 y10 y11 y12 y13 y14 y15 y16 y17 y18 y19 y20 y21 y22 y23 y24 y25 = (up4 (Spec.out2 A) : FVec Ideal S4x96x128x128 .f32) := by
  subst h0 h1 h2 h3 h4 h5 h6 h7 h8 h9 h10 h11 h12 h13 h14 h15 h16 h17 h18 h19 h20 h21 h22 h23 h24 h25
  exact ⟨ref_out1 A, ref_out2 A⟩

end Cert.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Finite
public import proofs.«01_k».proof.Proof.Run
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The reference leaves its arguments as they were and ends with every counter at zero (it has none). -/
theorem frame_ReferenceIdeal : Cert.quiescent_ReferenceIdeal (hReferenceIdeal := Cert.ReferenceIdeal.Gen.facts) :=
  fun m g _ => (θ_run _ _ _).mono
    (fun r h => ⟨fun c => (h c).2.2, Idealize.ShloMosaic.sem_eq_zero_of_no_sems (by decide) r.2⟩)
    (Cert.ReferenceIdeal.Value.run (F := Ideal) m g)

/-- On real arguments the kernel's two results are the reference's. -/
theorem results_equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp hag
  refine ⟨fun c => Cert.KernelIdeal.Gen.W13 m g c (Proc.devRef .tc Cert.KernelIdeal.main_v130),
    fun c => Cert.KernelIdeal.Gen.W13 m g c (Proc.devRef .tc Cert.KernelIdeal.main_v131), Cert.KernelIdeal.Gen.run_results m g,
    (θ_run _ _ _).mono (fun r h c => ?_) (Cert.ReferenceIdeal.Value.run (F := Ideal) m' g')⟩
  obtain ⟨A, H⟩ := Cert.Val.holds_of_finite m hp c
  obtain ⟨k1, k2⟩ := Cert.Val.W13_results m g c A H
  obtain ⟨e0, e1, e2, e3, e4, e5, e6, e7, e8, e9, e10, e11, e12, e13, e14, e15, e16, e17, e18, e19, e20, e21, e22, e23, e24, e25⟩ := hag c
  obtain ⟨r1, r2⟩ := Cert.Val.ref_results A _ _ _ _ _ _ _ _ _ _ _ _ _ _ _ _ _ _ _ _ _ _ _ _ _ _
    (e0.trans H.a0) (e1.trans H.a1) (e2.trans H.a2) (e3.trans H.a3) (e4.trans H.a4) (e5.trans H.a5) (e6.trans H.a6) (e7.trans H.a7) (e8.trans H.a8)
      (e9.trans H.a9) (e10.trans H.a10) (e11.trans H.a11) (e12.trans H.a12) (e13.trans H.a13) (e14.trans H.a14) (e15.trans H.a15) (e16.trans H.a16)
      (e17.trans H.a17) (e18.trans H.a18) (e19.trans H.a19) (e20.trans H.a20) (e21.trans H.a21) (e22.trans H.a22) (e23.trans H.a23) (e24.trans H.a24)
      (e25.trans H.a25)
  exact ⟨(h c).1.trans ((Cert.ReferenceIdeal.Read.val_main_v321_eq _).trans (r1.trans k1.symm)),
    (h c).2.1.trans ((Cert.ReferenceIdeal.Read.val_main_v322_eq _).trans (r2.trans k2.symm)), (h c).2.2⟩

/-- The certificate. -/
theorem claim : Cert.Claim := ⟨Cert.Kernel.Gen.facts, Cert.KernelIdeal.Gen.facts, Cert.ReferenceIdeal.Gen.facts, Cert.Pre_finite.Gen.facts,
  fun m g _ => Cert.Kernel.Gen.frame m g,
  fun m g _ => Cert.KernelIdeal.Gen.frame m g,
  fun m g _ => Cert.KernelIdeal.Gen.frame m g,
  frame_ReferenceIdeal,
  fun m g _ => frame_ReferenceIdeal m g trivial,
  trivial,
  results_equal⟩

end Cert.Proof

end
